-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 8192, 2048]⟩ ⟨3, ![2, 8192, 2048]⟩ (Layout.meshBlock [2, 2, 4] ![[1], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![8192, 1024]⟩ ⟨2, ![8192, 2048]⟩ (Layout.meshBlock [2, 2, 4] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x2048 : Shape := ⟨3, ![1, 8192, 2048]⟩
abbrev S8192x1024 : Shape := ⟨2, ![8192, 1024]⟩
abbrev S2x512x1024 : Shape := ⟨3, ![2, 512, 1024]⟩
abbrev S2 : Shape := ⟨1, ![2]⟩
abbrev S16 : Shape := ⟨1, ![16]⟩
abbrev S_ : Shape := ⟨0, ![]⟩
abbrev S1 : Shape := ⟨1, ![1]⟩
abbrev S1x512x1024 : Shape := ⟨3, ![1, 512, 1024]⟩
abbrev S512x1024 : Shape := ⟨2, ![512, 1024]⟩

abbrev nBuf : Space → Nat
  | .hbm => 2
  | .vmem => 5
  | .smem => 0
  | _ => 0

abbrev bufTy : (tb : Table) → Fin (tcTables nBuf tb) → BufTy
  | .hbm, ⟨0, _⟩ => ⟨S1x8192x2048, .f32⟩
  | .hbm, ⟨1, _⟩ => ⟨S8192x1024, .bf16⟩
  | .local _ .vmem, ⟨0, _⟩ => ⟨S8192x1024, .bf16⟩
  | .local _ .vmem, ⟨1, _⟩ => ⟨S8192x1024, .bf16⟩
  | .local _ .vmem, ⟨2, _⟩ => ⟨S2x512x1024, .bf16⟩
  | .local _ .vmem, ⟨3, _⟩ => ⟨S2x512x1024, .f32⟩
  | .local _ .vmem, ⟨4, _⟩ => ⟨S2x512x1024, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  (ofTc nBuf bufTy 1 52 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_6 : BitVec 32 := 8#32
  let v14 : BitVec 32 := Scalar.muli v2 c8_i32_6
  let v15 : BitVec 32 := Scalar.addi c0_i32 v14
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_7 : BitVec 32 := 4#32
  let v16 : BitVec 32 := Scalar.muli v9 c4_i32_7
  let v17 : BitVec 32 := Scalar.addi v15 v16
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v18 : BitVec 32 := Scalar.muli v8 c1_i32_8
  let v19 : BitVec 32 := Scalar.addi v17 v18
  v19.toNat
def k0_off1 (d0 : Dev nD) : Fin 3 → Nat :=
  let c0_i32_9 : BitVec 32 := 0#32
  let c0_i32_14 : BitVec 32 := 0#32
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_3 v5
  let c1024_i32_4 : BitVec 32 := 1024#32
  let v12 : BitVec 32 := Scalar.muli v11 c1024_i32_4
  ![0, 0, v12.toNat]
def k0_off2 (d0 : Dev nD) : Fin 3 → Nat :=
  let c0_i32_21 : BitVec 32 := 0#32
  let c512_i32 : BitVec 32 := 512#32
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_3 v5
  let c1024_i32_4 : BitVec 32 := 1024#32
  let v12 : BitVec 32 := Scalar.muli v11 c1024_i32_4
  ![0, 512, v12.toNat]
def k0_dev2 (d0 : Dev nD) : Nat :=
  let c0_i32_34 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_33 : BitVec 32 := 8#32
  let v44 : BitVec 32 := Scalar.muli v2 c8_i32_33
  let v45 : BitVec 32 := Scalar.addi c0_i32_34 v44
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_35 : BitVec 32 := 4#32
  let v46 : BitVec 32 := Scalar.muli v9 c4_i32_35
  let v47 : BitVec 32 := Scalar.addi v45 v46
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_36 : BitVec 32 := 1#32
  let v48 : BitVec 32 := Scalar.muli v8 c1_i32_36
  let v49 : BitVec 32 := Scalar.addi v47 v48
  v49.toNat
def k0_off3 (d0 : Dev nD) : Fin 3 → Nat :=
  let c0_i32_47 : BitVec 32 := 0#32
  let c1024_i32_52 : BitVec 32 := 1024#32
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_3 v5
  let c1024_i32_4 : BitVec 32 := 1024#32
  let v12 : BitVec 32 := Scalar.muli v11 c1024_i32_4
  ![0, 1024, v12.toNat]
def k0_dev3 (d0 : Dev nD) : Nat :=
  let c0_i32_59 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_58 : BitVec 32 := 8#32
  let v74 : BitVec 32 := Scalar.muli v2 c8_i32_58
  let v75 : BitVec 32 := Scalar.addi c0_i32_59 v74
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_60 : BitVec 32 := 4#32
  let v76 : BitVec 32 := Scalar.muli v9 c4_i32_60
  let v77 : BitVec 32 := Scalar.addi v75 v76
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_61 : BitVec 32 := 1#32
  let v78 : BitVec 32 := Scalar.muli v8 c1_i32_61
  let v79 : BitVec 32 := Scalar.addi v77 v78
  v79.toNat
def k0_off4 (d0 : Dev nD) : Fin 3 → Nat :=
  let c0_i32_72 : BitVec 32 := 0#32
  let c1536_i32 : BitVec 32 := 1536#32
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_3 v5
  let c1024_i32_4 : BitVec 32 := 1024#32
  let v12 : BitVec 32 := Scalar.muli v11 c1024_i32_4
  ![0, 1536, v12.toNat]
def k0_dev4 (d0 : Dev nD) : Nat :=
  let c0_i32_84 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_83 : BitVec 32 := 8#32
  let v104 : BitVec 32 := Scalar.muli v2 c8_i32_83
  let v105 : BitVec 32 := Scalar.addi c0_i32_84 v104
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_85 : BitVec 32 := 4#32
  let v106 : BitVec 32 := Scalar.muli v9 c4_i32_85
  let v107 : BitVec 32 := Scalar.addi v105 v106
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_86 : BitVec 32 := 1#32
  let v108 : BitVec 32 := Scalar.muli v8 c1_i32_86
  let v109 : BitVec 32 := Scalar.addi v107 v108
  v109.toNat
def k0_off5 (d0 : Dev nD) : Fin 3 → Nat :=
  let c0_i32_97 : BitVec 32 := 0#32
  let c2048_i32 : BitVec 32 := 2048#32
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_3 v5
  let c1024_i32_4 : BitVec 32 := 1024#32
  let v12 : BitVec 32 := Scalar.muli v11 c1024_i32_4
  ![0, 2048, v12.toNat]
def k0_dev5 (d0 : Dev nD) : Nat :=
  let c0_i32_108 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_107 : BitVec 32 := 8#32
  let v134 : BitVec 32 := Scalar.muli v2 c8_i32_107
  let v135 : BitVec 32 := Scalar.addi c0_i32_108 v134
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_109 : BitVec 32 := 4#32
  let v136 : BitVec 32 := Scalar.muli v9 c4_i32_109
  let v137 : BitVec 32 := Scalar.addi v135 v136
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_110 : BitVec 32 := 1#32
  let v138 : BitVec 32 := Scalar.muli v8 c1_i32_110
  let v139 : BitVec 32 := Scalar.addi v137 v138
  v139.toNat
def k0_off6 (d0 : Dev nD) : Fin 3 → Nat :=
  let c0_i32_121 : BitVec 32 := 0#32
  let c2560_i32 : BitVec 32 := 2560#32
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_3 v5
  let c1024_i32_4 : BitVec 32 := 1024#32
  let v12 : BitVec 32 := Scalar.muli v11 c1024_i32_4
  ![0, 2560, v12.toNat]
def k0_dev6 (d0 : Dev nD) : Nat :=
  let c0_i32_133 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_132 : BitVec 32 := 8#32
  let v164 : BitVec 32 := Scalar.muli v2 c8_i32_132
  let v165 : BitVec 32 := Scalar.addi c0_i32_133 v164
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_134 : BitVec 32 := 4#32
  let v166 : BitVec 32 := Scalar.muli v9 c4_i32_134
  let v167 : BitVec 32 := Scalar.addi v165 v166
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_135 : BitVec 32 := 1#32
  let v168 : BitVec 32 := Scalar.muli v8 c1_i32_135
  let v169 : BitVec 32 := Scalar.addi v167 v168
  v169.toNat
def k0_off7 (d0 : Dev nD) : Fin 3 → Nat :=
  let c0_i32_146 : BitVec 32 := 0#32
  let c3072_i32 : BitVec 32 := 3072#32
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_3 v5
  let c1024_i32_4 : BitVec 32 := 1024#32
  let v12 : BitVec 32 := Scalar.muli v11 c1024_i32_4
  ![0, 3072, v12.toNat]
def k0_dev7 (d0 : Dev nD) : Nat :=
  let c0_i32_157 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_156 : BitVec 32 := 8#32
  let v194 : BitVec 32 := Scalar.muli v2 c8_i32_156
  let v195 : BitVec 32 := Scalar.addi c0_i32_157 v194
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_158 : BitVec 32 := 4#32
  let v196 : BitVec 32 := Scalar.muli v9 c4_i32_158
  let v197 : BitVec 32 := Scalar.addi v195 v196
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_159 : BitVec 32 := 1#32
  let v198 : BitVec 32 := Scalar.muli v8 c1_i32_159
  let v199 : BitVec 32 := Scalar.addi v197 v198
  v199.toNat
def k0_off8 (d0 : Dev nD) : Fin 3 → Nat :=
  let c0_i32_170 : BitVec 32 := 0#32
  let c3584_i32 : BitVec 32 := 3584#32
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_3 v5
  let c1024_i32_4 : BitVec 32 := 1024#32
  let v12 : BitVec 32 := Scalar.muli v11 c1024_i32_4
  ![0, 3584, v12.toNat]
def k0_dev8 (d0 : Dev nD) : Nat :=
  let c0_i32_181 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_180 : BitVec 32 := 8#32
  let v224 : BitVec 32 := Scalar.muli v2 c8_i32_180
  let v225 : BitVec 32 := Scalar.addi c0_i32_181 v224
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_182 : BitVec 32 := 4#32
  let v226 : BitVec 32 := Scalar.muli v9 c4_i32_182
  let v227 : BitVec 32 := Scalar.addi v225 v226
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_183 : BitVec 32 := 1#32
  let v228 : BitVec 32 := Scalar.muli v8 c1_i32_183
  let v229 : BitVec 32 := Scalar.addi v227 v228
  v229.toNat
def k0_off9 (d0 : Dev nD) : Fin 3 → Nat :=
  let c0_i32_194 : BitVec 32 := 0#32
  let c4096_i32 : BitVec 32 := 4096#32
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_3 v5
  let c1024_i32_4 : BitVec 32 := 1024#32
  let v12 : BitVec 32 := Scalar.muli v11 c1024_i32_4
  ![0, 4096, v12.toNat]
def k0_dev9 (d0 : Dev nD) : Nat :=
  let c0_i32_205 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_204 : BitVec 32 := 8#32
  let v254 : BitVec 32 := Scalar.muli v2 c8_i32_204
  let v255 : BitVec 32 := Scalar.addi c0_i32_205 v254
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_206 : BitVec 32 := 4#32
  let v256 : BitVec 32 := Scalar.muli v9 c4_i32_206
  let v257 : BitVec 32 := Scalar.addi v255 v256
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_207 : BitVec 32 := 1#32
  let v258 : BitVec 32 := Scalar.muli v8 c1_i32_207
  let v259 : BitVec 32 := Scalar.addi v257 v258
  v259.toNat
def k0_off10 (d0 : Dev nD) : Fin 3 → Nat :=
  let c0_i32_218 : BitVec 32 := 0#32
  let c4608_i32 : BitVec 32 := 4608#32
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_3 v5
  let c1024_i32_4 : BitVec 32 := 1024#32
  let v12 : BitVec 32 := Scalar.muli v11 c1024_i32_4
  ![0, 4608, v12.toNat]
def k0_dev10 (d0 : Dev nD) : Nat :=
  let c0_i32_230 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_229 : BitVec 32 := 8#32
  let v284 : BitVec 32 := Scalar.muli v2 c8_i32_229
  let v285 : BitVec 32 := Scalar.addi c0_i32_230 v284
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_231 : BitVec 32 := 4#32
  let v286 : BitVec 32 := Scalar.muli v9 c4_i32_231
  let v287 : BitVec 32 := Scalar.addi v285 v286
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_232 : BitVec 32 := 1#32
  let v288 : BitVec 32 := Scalar.muli v8 c1_i32_232
  let v289 : BitVec 32 := Scalar.addi v287 v288
  v289.toNat
def k0_off11 (d0 : Dev nD) : Fin 3 → Nat :=
  let c0_i32_243 : BitVec 32 := 0#32
  let c5120_i32 : BitVec 32 := 5120#32
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_3 v5
  let c1024_i32_4 : BitVec 32 := 1024#32
  let v12 : BitVec 32 := Scalar.muli v11 c1024_i32_4
  ![0, 5120, v12.toNat]
def k0_dev11 (d0 : Dev nD) : Nat :=
  let c0_i32_254 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_253 : BitVec 32 := 8#32
  let v314 : BitVec 32 := Scalar.muli v2 c8_i32_253
  let v315 : BitVec 32 := Scalar.addi c0_i32_254 v314
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_255 : BitVec 32 := 4#32
  let v316 : BitVec 32 := Scalar.muli v9 c4_i32_255
  let v317 : BitVec 32 := Scalar.addi v315 v316
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_256 : BitVec 32 := 1#32
  let v318 : BitVec 32 := Scalar.muli v8 c1_i32_256
  let v319 : BitVec 32 := Scalar.addi v317 v318
  v319.toNat
def k0_off12 (d0 : Dev nD) : Fin 3 → Nat :=
  let c0_i32_267 : BitVec 32 := 0#32
  let c5632_i32 : BitVec 32 := 5632#32
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_3 v5
  let c1024_i32_4 : BitVec 32 := 1024#32
  let v12 : BitVec 32 := Scalar.muli v11 c1024_i32_4
  ![0, 5632, v12.toNat]
def k0_dev12 (d0 : Dev nD) : Nat :=
  let c0_i32_278 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_277 : BitVec 32 := 8#32
  let v344 : BitVec 32 := Scalar.muli v2 c8_i32_277
  let v345 : BitVec 32 := Scalar.addi c0_i32_278 v344
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_279 : BitVec 32 := 4#32
  let v346 : BitVec 32 := Scalar.muli v9 c4_i32_279
  let v347 : BitVec 32 := Scalar.addi v345 v346
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_280 : BitVec 32 := 1#32
  let v348 : BitVec 32 := Scalar.muli v8 c1_i32_280
  let v349 : BitVec 32 := Scalar.addi v347 v348
  v349.toNat
def k0_off13 (d0 : Dev nD) : Fin 3 → Nat :=
  let c0_i32_291 : BitVec 32 := 0#32
  let c6144_i32 : BitVec 32 := 6144#32
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_3 v5
  let c1024_i32_4 : BitVec 32 := 1024#32
  let v12 : BitVec 32 := Scalar.muli v11 c1024_i32_4
  ![0, 6144, v12.toNat]
def k0_dev13 (d0 : Dev nD) : Nat :=
  let c0_i32_302 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_301 : BitVec 32 := 8#32
  let v374 : BitVec 32 := Scalar.muli v2 c8_i32_301
  let v375 : BitVec 32 := Scalar.addi c0_i32_302 v374
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_303 : BitVec 32 := 4#32
  let v376 : BitVec 32 := Scalar.muli v9 c4_i32_303
  let v377 : BitVec 32 := Scalar.addi v375 v376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_304 : BitVec 32 := 1#32
  let v378 : BitVec 32 := Scalar.muli v8 c1_i32_304
  let v379 : BitVec 32 := Scalar.addi v377 v378
  v379.toNat
def k0_off14 (d0 : Dev nD) : Fin 3 → Nat :=
  let c0_i32_315 : BitVec 32 := 0#32
  let c6656_i32 : BitVec 32 := 6656#32
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_3 v5
  let c1024_i32_4 : BitVec 32 := 1024#32
  let v12 : BitVec 32 := Scalar.muli v11 c1024_i32_4
  ![0, 6656, v12.toNat]
def k0_dev14 (d0 : Dev nD) : Nat :=
  let c0_i32_326 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_325 : BitVec 32 := 8#32
  let v404 : BitVec 32 := Scalar.muli v2 c8_i32_325
  let v405 : BitVec 32 := Scalar.addi c0_i32_326 v404
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_327 : BitVec 32 := 4#32
  let v406 : BitVec 32 := Scalar.muli v9 c4_i32_327
  let v407 : BitVec 32 := Scalar.addi v405 v406
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_328 : BitVec 32 := 1#32
  let v408 : BitVec 32 := Scalar.muli v8 c1_i32_328
  let v409 : BitVec 32 := Scalar.addi v407 v408
  v409.toNat
def k0_off15 (d0 : Dev nD) : Fin 3 → Nat :=
  let c0_i32_339 : BitVec 32 := 0#32
  let c7168_i32 : BitVec 32 := 7168#32
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_3 v5
  let c1024_i32_4 : BitVec 32 := 1024#32
  let v12 : BitVec 32 := Scalar.muli v11 c1024_i32_4
  ![0, 7168, v12.toNat]
def k0_dev15 (d0 : Dev nD) : Nat :=
  let c0_i32_350 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_349 : BitVec 32 := 8#32
  let v434 : BitVec 32 := Scalar.muli v2 c8_i32_349
  let v435 : BitVec 32 := Scalar.addi c0_i32_350 v434
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_351 : BitVec 32 := 4#32
  let v436 : BitVec 32 := Scalar.muli v9 c4_i32_351
  let v437 : BitVec 32 := Scalar.addi v435 v436
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_352 : BitVec 32 := 1#32
  let v438 : BitVec 32 := Scalar.muli v8 c1_i32_352
  let v439 : BitVec 32 := Scalar.addi v437 v438
  v439.toNat
def k0_off16 (d0 : Dev nD) : Fin 3 → Nat :=
  let c0_i32_363 : BitVec 32 := 0#32
  let c7680_i32 : BitVec 32 := 7680#32
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_3 v5
  let c1024_i32_4 : BitVec 32 := 1024#32
  let v12 : BitVec 32 := Scalar.muli v11 c1024_i32_4
  ![0, 7680, v12.toNat]
def k0_dev16 (d0 : Dev nD) : Nat :=
  let c0_i32_374 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_373 : BitVec 32 := 8#32
  let v464 : BitVec 32 := Scalar.muli v2 c8_i32_373
  let v465 : BitVec 32 := Scalar.addi c0_i32_374 v464
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_375 : BitVec 32 := 4#32
  let v466 : BitVec 32 := Scalar.muli v9 c4_i32_375
  let v467 : BitVec 32 := Scalar.addi v465 v466
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_376 : BitVec 32 := 1#32
  let v468 : BitVec 32 := Scalar.muli v8 c1_i32_376
  let v469 : BitVec 32 := Scalar.addi v467 v468
  v469.toNat
def k0_dev17 (d0 : Dev nD) : Nat :=
  let c0_i32_393 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_392 : BitVec 32 := 8#32
  let v488 : BitVec 32 := Scalar.muli v2 c8_i32_392
  let v489 : BitVec 32 := Scalar.addi c0_i32_393 v488
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_394 : BitVec 32 := 4#32
  let v490 : BitVec 32 := Scalar.muli v9 c4_i32_394
  let v491 : BitVec 32 := Scalar.addi v489 v490
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_395 : BitVec 32 := 1#32
  let v492 : BitVec 32 := Scalar.muli v8 c1_i32_395
  let v493 : BitVec 32 := Scalar.addi v491 v492
  v493.toNat
def k0_off17 (d0 : Dev nD) : Fin 3 → Nat :=
  let c0_i32_400 : BitVec 32 := 0#32
  let c0_i32_405 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32 : BitVec 32 := 1024#32
  let v10 : BitVec 32 := Scalar.muli v5 c1024_i32
  ![0, 0, v10.toNat]
def k0_off18 (d0 : Dev nD) : Fin 3 → Nat :=
  let c0_i32_406 : BitVec 32 := 0#32
  let c512_i32_411 : BitVec 32 := 512#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32 : BitVec 32 := 1024#32
  let v10 : BitVec 32 := Scalar.muli v5 c1024_i32
  ![0, 512, v10.toNat]
def k0_off19 (d0 : Dev nD) : Fin 3 → Nat :=
  let c0_i32_442 : BitVec 32 := 0#32
  let c1024_i32_447 : BitVec 32 := 1024#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32 : BitVec 32 := 1024#32
  let v10 : BitVec 32 := Scalar.muli v5 c1024_i32
  ![0, 1024, v10.toNat]
def k0_off20 (d0 : Dev nD) : Fin 3 → Nat :=
  let c0_i32_478 : BitVec 32 := 0#32
  let c1536_i32_483 : BitVec 32 := 1536#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32 : BitVec 32 := 1024#32
  let v10 : BitVec 32 := Scalar.muli v5 c1024_i32
  ![0, 1536, v10.toNat]
def k0_off21 (d0 : Dev nD) : Fin 3 → Nat :=
  let c0_i32_520 : BitVec 32 := 0#32
  let c2048_i32_525 : BitVec 32 := 2048#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32 : BitVec 32 := 1024#32
  let v10 : BitVec 32 := Scalar.muli v5 c1024_i32
  ![0, 2048, v10.toNat]
def k0_off22 (d0 : Dev nD) : Fin 3 → Nat :=
  let c0_i32_562 : BitVec 32 := 0#32
  let c2560_i32_567 : BitVec 32 := 2560#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32 : BitVec 32 := 1024#32
  let v10 : BitVec 32 := Scalar.muli v5 c1024_i32
  ![0, 2560, v10.toNat]
def k0_off23 (d0 : Dev nD) : Fin 3 → Nat :=
  let c0_i32_604 : BitVec 32 := 0#32
  let c3072_i32_609 : BitVec 32 := 3072#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32 : BitVec 32 := 1024#32
  let v10 : BitVec 32 := Scalar.muli v5 c1024_i32
  ![0, 3072, v10.toNat]
def k0_off24 (d0 : Dev nD) : Fin 3 → Nat :=
  let c0_i32_646 : BitVec 32 := 0#32
  let c3584_i32_651 : BitVec 32 := 3584#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32 : BitVec 32 := 1024#32
  let v10 : BitVec 32 := Scalar.muli v5 c1024_i32
  ![0, 3584, v10.toNat]
def k0_off25 (d0 : Dev nD) : Fin 3 → Nat :=
  let c0_i32_688 : BitVec 32 := 0#32
  let c4096_i32_693 : BitVec 32 := 4096#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32 : BitVec 32 := 1024#32
  let v10 : BitVec 32 := Scalar.muli v5 c1024_i32
  ![0, 4096, v10.toNat]
def k0_off26 (d0 : Dev nD) : Fin 3 → Nat :=
  let c0_i32_730 : BitVec 32 := 0#32
  let c4608_i32_735 : BitVec 32 := 4608#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32 : BitVec 32 := 1024#32
  let v10 : BitVec 32 := Scalar.muli v5 c1024_i32
  ![0, 4608, v10.toNat]
def k0_off27 (d0 : Dev nD) : Fin 3 → Nat :=
  let c0_i32_772 : BitVec 32 := 0#32
  let c5120_i32_777 : BitVec 32 := 5120#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32 : BitVec 32 := 1024#32
  let v10 : BitVec 32 := Scalar.muli v5 c1024_i32
  ![0, 5120, v10.toNat]
def k0_off28 (d0 : Dev nD) : Fin 3 → Nat :=
  let c0_i32_814 : BitVec 32 := 0#32
  let c5632_i32_819 : BitVec 32 := 5632#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32 : BitVec 32 := 1024#32
  let v10 : BitVec 32 := Scalar.muli v5 c1024_i32
  ![0, 5632, v10.toNat]
def k0_off29 (d0 : Dev nD) : Fin 3 → Nat :=
  let c0_i32_856 : BitVec 32 := 0#32
  let c6144_i32_861 : BitVec 32 := 6144#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32 : BitVec 32 := 1024#32
  let v10 : BitVec 32 := Scalar.muli v5 c1024_i32
  ![0, 6144, v10.toNat]
def k0_off30 (d0 : Dev nD) : Fin 3 → Nat :=
  let c0_i32_898 : BitVec 32 := 0#32
  let c6656_i32_903 : BitVec 32 := 6656#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32 : BitVec 32 := 1024#32
  let v10 : BitVec 32 := Scalar.muli v5 c1024_i32
  ![0, 6656, v10.toNat]
def k0_off31 (d0 : Dev nD) : Fin 3 → Nat :=
  let c0_i32_940 : BitVec 32 := 0#32
  let c7168_i32_945 : BitVec 32 := 7168#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32 : BitVec 32 := 1024#32
  let v10 : BitVec 32 := Scalar.muli v5 c1024_i32
  ![0, 7168, v10.toNat]
def k0_off32 (d0 : Dev nD) : Fin 3 → Nat :=
  let c0_i32_982 : BitVec 32 := 0#32
  let c7680_i32_987 : BitVec 32 := 7680#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32 : BitVec 32 := 1024#32
  let v10 : BitVec 32 := Scalar.muli v5 c1024_i32
  ![0, 7680, v10.toNat]
-- ==== ReferenceIdeal.lean ====
abbrev S2x8192x2048 : Shape := ⟨3, ![2, 8192, 2048]⟩
abbrev S_ : Shape := ⟨0, ![]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x8192x2048, .bf16⟩
  | .hbm, ⟨2, _⟩ => ⟨S2x8192x2048, .f32⟩
  | .hbm, ⟨3, _⟩ => ⟨S_, .f32⟩
  | .hbm, ⟨4, _⟩ => ⟨S8192x2048, .f32⟩
  | .hbm, ⟨5, _⟩ => ⟨S8192x2048, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.LoopIdeal.lean ====
/-
# The kernel's body as two loops over the row blocks

The kernel is printed unrolled: sixteen blocks of 512 rows are sent to the device that differs in the
`y` coordinate, and sixteen are received, added and stored. This file names the views the operations go
through as functions of the block's number, writes the body as one loop per phase, and states that the
printed body is that program.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.Rs

open Cert.KernelIdeal Cert.KernelIdeal.Gen
open Idealize.ShloMosaic
open Idealize.SL.Sem

variable {F : FTy → Type} [FloatOps F]

/-! ## Buffers and views -/

abbrev xB : Memref sig .tc .hbm S1x8192x2048 .f32 := Memref.whole main_arg0
abbrev oB : Memref sig .tc .hbm S8192x1024 .bf16 := Memref.whole main_v1
abbrev sB : Memref sig .tc .vmem S8192x1024 .bf16 := Memref.whole cc0_scratch0
abbrev rB : Memref sig .tc .vmem S8192x1024 .bf16 := Memref.whole cc0_scratch1
abbrev gB : Memref sig .tc .vmem S2x512x1024 .bf16 := Memref.whole cc0_scratch2
abbrev aB : Memref sig .tc .vmem S2x512x1024 .f32 := Memref.whole cc0_scratch3
abbrev bB : Memref sig .tc .vmem S2x512x1024 .f32 := Memref.whole cc0_scratch4

/-- Which of the two slots block `k` is staged in. -/
abbrev par (k : Fin 16) : Fin 2 := ⟨k.val % 2, Nat.mod_lt _ (by decide)⟩

theorem slab_inb (k : Fin 16) : ∀ a, (![512 * k.val, 0] : Fin 2 → ℕ) a + S512x1024.size a ≤ S8192x1024.size a := by
  revert k; decide
theorem slot_inb (s : Fin 2) : ∀ a, (![s.val, 0, 0] : Fin 3 → ℕ) a + S1x512x1024.size a ≤ S2x512x1024.size a := by
  revert s; decide
theorem sem2_inb (s : Fin 2) : ∀ a, (![s.val] : Fin 1 → ℕ) a + S1.size a ≤ S2.size a := by revert s; decide
theorem sem16_inb (k : Fin 16) : ∀ a, (![k.val] : Fin 1 → ℕ) a + S1.size a ≤ S16.size a := by revert k; decide

/-- Rows `512 k` to `512 k + 511`. -/
abbrev slab (k : Fin 16) : Rect S8192x1024 := Rect.unit (s := S8192x1024) ![512 * k.val, 0] S512x1024.size (slab_inb k)
/-- Slot `s` of a two-slot staging buffer. -/
abbrev slot (s : Fin 2) : Rect S2x512x1024 := Rect.unit (s := S2x512x1024) ![s.val, 0, 0] S1x512x1024.size (slot_inb s)

theorem slab_packed (k : Fin 16) : (slab k).PackedRows (EltTy.packing .bf16) := by revert k; decide
theorem slab_words (k : Fin 16) : (slab k).WholeWords (EltTy.packing .bf16) := by revert k; decide
theorem slot_packed (s : Fin 2) : (slot s).PackedRows (EltTy.packing .bf16) := by revert s; decide
theorem slot_words (s : Fin 2) : (slot s).WholeWords (EltTy.packing .bf16) := by revert s; decide

/-- Row block `k` of a buffer of 8192 rows. -/
abbrev rows {sp : Space} (M : Memref sig .tc sp S8192x1024 .bf16) (k : Fin 16) : Memref sig .tc sp S512x1024 .bf16 :=
  M.slice (slab k) (fun _ => rfl)
/-- Slot `s` of a staging buffer, as a matrix. -/
abbrev slotM {e : EltTy} (M : Memref sig .tc .vmem S2x512x1024 e) (s : Fin 2) : Memref sig .tc .vmem S512x1024 e :=
  (M.slice (slot s) (fun _ => rfl)).squeeze S512x1024 squeezes_S1x512x1024_S512x1024

/-- The semaphores: the two of each staging copy, and the sixteen of the sends, the receives and the stores. -/
abbrev pick2 (A : DmaSems sig S2) (s : Fin 2) : DmaSem sig :=
  ((A.slice (Rect.unit (s := S2) ![s.val] S1.size (sem2_inb s))).squeeze S_ squeezes_S1_S_).sem
abbrev pick16 (A : DmaSems sig S16) (k : Fin 16) : DmaSem sig :=
  ((A.slice (Rect.unit (s := S16) ![k.val] S1.size (sem16_inb k))).squeeze S_ squeezes_S1_S_).sem
abbrev aS (s : Fin 2) : DmaSem sig := pick2 cc0_scratch5 s
abbrev bS (s : Fin 2) : DmaSem sig := pick2 cc0_scratch6 s
abbrev sS (k : Fin 16) : DmaSem sig := pick16 cc0_scratch7 k
abbrev rS (k : Fin 16) : DmaSem sig := pick16 cc0_scratch8 k
abbrev oS (k : Fin 16) : DmaSem sig := pick16 cc0_scratch9 k
abbrev barS : Sem sig := (SemArray.scalar (sig.barrier 0 rfl) : Sems sig S_).sem

/-! ## The printed offsets and devices, by block -/

/-- Where block `k` of the columns the peer keeps starts in the argument; -/
def offA (c : Dev nD) (k : Fin 16) : Fin 3 → ℕ :=
  match k with
  | 0 => k0_off1 c | 1 => k0_off2 c | 2 => k0_off3 c | 3 => k0_off4 c
  | 4 => k0_off5 c | 5 => k0_off6 c | 6 => k0_off7 c | 7 => k0_off8 c
  | 8 => k0_off9 c | 9 => k0_off10 c | 10 => k0_off11 c | 11 => k0_off12 c
  | 12 => k0_off13 c | 13 => k0_off14 c | 14 => k0_off15 c | _ => k0_off16 c
/-- and block `k` of the columns this device keeps. -/
def offB (c : Dev nD) (k : Fin 16) : Fin 3 → ℕ :=
  match k with
  | 0 => k0_off17 c | 1 => k0_off18 c | 2 => k0_off19 c | 3 => k0_off20 c
  | 4 => k0_off21 c | 5 => k0_off22 c | 6 => k0_off23 c | 7 => k0_off24 c
  | 8 => k0_off25 c | 9 => k0_off26 c | 10 => k0_off27 c | 11 => k0_off28 c
  | 12 => k0_off29 c | 13 => k0_off30 c | 14 => k0_off31 c | _ => k0_off32 c
/-- The device the transfer of block `k` names. -/
def tgt (c : Dev nD) (k : Fin 16) : Dev nD :=
  match k with
  | 0 => ⟨k0_dev2 c, k0_dev2_lt c⟩ | 1 => ⟨k0_dev3 c, k0_dev3_lt c⟩ | 2 => ⟨k0_dev4 c, k0_dev4_lt c⟩
  | 3 => ⟨k0_dev5 c, k0_dev5_lt c⟩ | 4 => ⟨k0_dev6 c, k0_dev6_lt c⟩ | 5 => ⟨k0_dev7 c, k0_dev7_lt c⟩
  | 6 => ⟨k0_dev8 c, k0_dev8_lt c⟩ | 7 => ⟨k0_dev9 c, k0_dev9_lt c⟩ | 8 => ⟨k0_dev10 c, k0_dev10_lt c⟩
  | 9 => ⟨k0_dev11 c, k0_dev11_lt c⟩ | 10 => ⟨k0_dev12 c, k0_dev12_lt c⟩ | 11 => ⟨k0_dev13 c, k0_dev13_lt c⟩
  | 12 => ⟨k0_dev14 c, k0_dev14_lt c⟩ | 13 => ⟨k0_dev15 c, k0_dev15_lt c⟩ | 14 => ⟨k0_dev16 c, k0_dev16_lt c⟩
  | _ => ⟨k0_dev17 c, k0_dev17_lt c⟩

theorem offA_eq (c : Dev nD) (k : Fin 16) : offA c k = ![0, 512 * k.val, (1 - c.val / 4 % 2) * 1024] := by
  revert k c; decide
theorem offB_eq (c : Dev nD) (k : Fin 16) : offB c k = ![0, 512 * k.val, (c.val / 4 % 2) * 1024] := by
  revert k c; decide
theorem offA_inb (c : Dev nD) (k : Fin 16) : ∀ a, offA c k a + S1x512x1024.size a ≤ S1x8192x2048.size a := by
  revert k c; decide
theorem offB_inb (c : Dev nD) (k : Fin 16) : ∀ a, offB c k a + S1x512x1024.size a ≤ S1x8192x2048.size a := by
  revert k c; decide

/-- Block `k` of the columns the peer keeps, and of the columns this device keeps. -/
abbrev xA (c : Dev nD) (k : Fin 16) : Memref sig .tc .hbm S512x1024 .f32 :=
  (xB.slice (Rect.unit (s := S1x8192x2048) (offA c k) S1x512x1024.size (offA_inb c k)) (fun _ => rfl)).squeeze S512x1024
    squeezes_S1x512x1024_S512x1024
abbrev xO (c : Dev nD) (k : Fin 16) : Memref sig .tc .hbm S512x1024 .f32 :=
  (xB.slice (Rect.unit (s := S1x8192x2048) (offB c k) S1x512x1024.size (offB_inb c k)) (fun _ => rfl)).squeeze S512x1024
    squeezes_S1x512x1024_S512x1024

/-! ## Exactness of the views the transfers and stores go through -/

theorem exact_f32 {sp : Space} {s s' : Shape} (v : View sig .tc sp s .f32) (h : s'.numel = s.numel) : (v.reshape s' h).WordExact :=
  (View.wordExact_bits rfl).reshape _ _
theorem exact_sB (k : Fin 16) : (rows sB k).view.WordExact := (Memref.isWhole_whole _).wordExact_slice rfl _ (slab_words k)
theorem exact_rB (k : Fin 16) : (rows rB k).view.WordExact := (Memref.isWhole_whole _).wordExact_slice rfl _ (slab_words k)
theorem exact_oB (k : Fin 16) : (rows oB k).view.WordExact := (Memref.isWhole_whole _).wordExact_slice rfl _ (slab_words k)
theorem exact_gB (s : Fin 2) : (slotM gB s).view.WordExact :=
  ((Memref.isWhole_whole _).wordExact_slice rfl _ (slot_words s)).reshape _ _
theorem stores_sB (k : Fin 16) : (sB.access (slab k)).Stores Finset.univ :=
  View.stores_vmem h_S512x1024 ((Memref.isWhole_whole _).storeExact_slice rfl _ (slab_packed k)) (fun _ => rfl)
theorem stores_gB (s : Fin 2) : (gB.access (slot s)).Stores Finset.univ :=
  View.stores_vmem h_S1x512x1024 ((Memref.isWhole_whole _).storeExact_slice rfl _ (slot_packed s)) (fun _ => rfl)

/-! ## The values stored -/

/-- A staged block cast to the width it travels in. -/
def narrow (v : Vec F S1x512x1024 .f32) : FVec F S512x1024 .bf16 :=
  shapeCast S512x1024 (truncf .bf16 (shapeCast S512x1024 v shapeCasts_S1x512x1024_S512x1024) bitsLt_bf16_f32)
    shapeCasts_S512x1024_S512x1024
/-- A received block plus the own staged block cast to its width. -/
def total (w : Vec F S512x1024 .bf16) (v : Vec F S1x512x1024 .f32) : FVec F S1x512x1024 .bf16 :=
  shapeCast S1x512x1024
    (addf w (truncf .bf16 (shapeCast S512x1024 v shapeCasts_S1x512x1024_S512x1024) bitsLt_bf16_f32))
    shapeCasts_S512x1024_S1x512x1024

/-! ## The operations -/

abbrev PR : Type 1 := Prog (TpuEff nD τ sig (Elt F) Λ₀ .tc) PUnit

variable (c : Dev nD) (k : Fin 16) (r : PR (F := F))

/-- Start copying block `k` of the peer's columns into its slot; -/
def startA : PR (F := F) :=
  .op (.enqueueDma (xA c k) (.here (slotM aB (par k))) (.dma (aS (par k))) (exact_f32 _ _) (exact_f32 _ _) ⟨Or.inl rfl, trivial⟩) fun _ => r
/-- wait for it; -/
def waitA : PR (F := F) :=
  .op (.waitDma2 (aS (par k)) (xA c k) (slotM aB (par k)) (exact_f32 _ _) (exact_f32 _ _)) fun _ => r
/-- cast it and lay it in the send buffer. -/
def castA : PR (F := F) :=
  .op (.load aB (slot (par k)).toLoadRect (View.loadsAt_vmem h_S1x512x1024)) fun v =>
  .op (.load sB (slab k).toLoadRect (View.loadsAt_vmem h_S512x1024)) fun _ =>
  .op (.store sB (slab k) (narrow v) Finset.univ (stores_sB k) (.inl rfl)) fun _ => r
/-- Send block `k` of the send buffer into block `k` of the peer's receive buffer. -/
def sendK : PR (F := F) :=
  .op (.enqueueDma (rows sB k) (.remote (Dev.tc (tgt c k)) (rows rB k) (.dma (sS k))) (.dma (rS k)) (exact_sB k) (exact_rB k)
    ⟨⟨rfl, Or.inl rfl⟩, trivial⟩) fun _ => r

/-- Start copying block `k` of the own columns into its slot; -/
def startB : PR (F := F) :=
  .op (.enqueueDma (xO c k) (.here (slotM bB (par k))) (.dma (bS (par k))) (exact_f32 _ _) (exact_f32 _ _) ⟨Or.inl rfl, trivial⟩) fun _ => r
/-- wait for it; -/
def waitB : PR (F := F) :=
  .op (.waitDma2 (bS (par k)) (xO c k) (slotM bB (par k)) (exact_f32 _ _) (exact_f32 _ _)) fun _ => r
/-- wait for the peer's block `k`; -/
def waitR : PR (F := F) :=
  .op (.waitDma2 (rS k) (rows sB k) (rows rB k) (exact_sB k) (exact_rB k)) fun _ => r
/-- add the two; -/
def addK : PR (F := F) :=
  .op (.load rB (slab k).toLoadRect (View.loadsAt_vmem h_S512x1024)) fun w =>
  .op (.load bB (slot (par k)).toLoadRect (View.loadsAt_vmem h_S1x512x1024)) fun v =>
  .op (.load gB (slot (par k)).toLoadRect (View.loadsAt_vmem h_S1x512x1024)) fun _ =>
  .op (.store gB (slot (par k)) (total w v) Finset.univ (stores_gB (par k)) (.inl rfl)) fun _ => r
/-- start copying the sum into block `k` of the result; -/
def startO : PR (F := F) :=
  .op (.enqueueDma (slotM gB (par k)) (.here (rows oB k)) (.dma (oS k)) (exact_gB _) (exact_oB k) ⟨Or.inl rfl, trivial⟩) fun _ => r
/-- wait for it; -/
def waitO : PR (F := F) :=
  .op (.waitDma2 (oS k) (slotM gB (par k)) (rows oB k) (exact_gB _) (exact_oB k)) fun _ => r
/-- wait for the send of block `k` to have left. -/
def waitS : PR (F := F) :=
  .op (.waitDma2 (sS k) (rows rB k) (rows sB k) (exact_rB k) (exact_sB k)) fun _ => r

/-- The first phase's work on block `k` up to the send. -/
def stageK : PR (F := F) :=
  waitA c k (if h : k.val + 1 < 16 then startA c ⟨k.val + 1, h⟩ (castA k r) else castA k r)
/-- The first phase's work on a block after the first. -/
def stepA : PR (F := F) := stageK c k (sendK c k r)
/-- The second phase's work on block `k`. -/
def stepB : PR (F := F) :=
  waitB c k (waitR k (
    let rest := addK k (startO k (if h : k.val + 2 < 16 then startB c ⟨k.val + 2, h⟩ r else r))
    if h : 2 ≤ k.val then waitO ⟨k.val - 2, by omega⟩ rest else rest))

/-- Blocks `lo` to `lo + n - 1`, in order. -/
def loop (f : Fin 16 → PR (F := F) → PR (F := F)) : (n lo : ℕ) → lo + n ≤ 16 → PR (F := F) → PR (F := F)
  | 0, _, _, r => r
  | n + 1, lo, h, r => f ⟨lo, by omega⟩ (loop f n (lo + 1) (by omega) r)

/-- The whole body on device `c`, after it has read which device it is. -/
def bodyOn : PR (F := F) :=
  .op (.semSignal (Dev.tc (⟨k0_dev1 c, k0_dev1_lt c⟩ : Dev nD)) barS 1) fun _ =>
  startA c 0 <| stageK c 0 <|
  .op (.semWait barS 1) fun _ =>
  sendK c 0 <| loop (stepA c) 15 1 (by decide) <|
  startB c 0 <| startB c 1 <| loop (stepB c) 16 0 (by decide) <|
  waitO 14 <| waitO 15 <| loop waitS 16 0 (by decide) (.ret ⟨⟩)

/-- The body on whichever device runs it. -/
def body : PR (F := F) := .op .deviceId fun c => bodyOn c

set_option maxRecDepth 65536 in
/-- The printed body is that program. -/
theorem bodyAt_eq (t : Fin cfg0.N) : (bodyAt0 t : PR (F := F)) = body := by
  rfl

end Cert.KernelIdeal.Rs
-- ==== Proof.OwnIdeal.lean ====
/-
# One operation at a time

What each operation of the body does to the piece of memory it touches: a staging copy, the wait for it, a
load and a store, each as a rule over a piece owned at known contents. Nothing here depends on which block
is worked on or on the other devices.
-/
module

public import proofs.«01_k».proof.Proof.LoopIdeal
public import Idealize.ShloMosaic.Lib.Pipeline.Launch
public import Idealize.ShloMosaic.Lib.Pipeline.Kit
public import Idealize.ShloMosaic.Lib.Pipeline.Value
public import Idealize.ShloMosaic.Lib.Memref
public import Idealize.ShloMosaic.Lib.Transfers
public import Idealize.ShloMosaic.Lib.Tactic

@[expose] public section

noncomputable section

namespace Cert.KernelIdeal.Rs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-! ## The algebra: the launch's copy, the copy of the cells shared between devices, and counters -/

abbrev UB : Type := URounds (GSem nD τ sig) Unit
abbrev UU : Type := UR sig nD τ × (UB × Counters)

local notation "𝕄" => MT nD τ sig Unit (Elt F) ℕ UU ℕ

/-- The cells shared between devices, in the machine's algebra. -/
def ER : Emb UB 𝕄 :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
instance ER_landsIn : (ER (F := F)).LandsIn (upEmb : UEmb _ 𝕄) := by unfold ER; infer_instance

/-- The counters of the copies within a device. -/
abbrev EC : UEmb Counters 𝕄 := countersEmb

abbrev 𝒱₀ : Variants := Variants.none

/-- Device `c` runs `p` and ends with `Q`. -/
abbrev Wp (c : Dev nD) (p : PR (F := F)) (Q : PUnit.{1} → sProp 𝕄) : sProp 𝕄 :=
  wp frame (wpE (defs₀ (F := F)) 𝒱₀ (c : Thread nD τ) none) Set.univ p Q

/-- Device `c` owes `O`, whatever it has waited for. -/
def owing (c : Dev nD) (O : CellTallies nD τ sig Unit) : sProp 𝕄 :=
  iprop(∃ W : Waits sig Unit, owes (c : Thread nD τ) O W)

/-- Device `c` owns a piece of memory, at contents unknown. -/
def anyAt (c : Dev nD) {sp : Space} {s : Shape} {e : EltTy} (m : Memref sig .tc sp s e) : sProp 𝕄 :=
  iprop(∃ f, m.view.loc (c : Thread nD τ) ↦[m.view.set]{fullShare} f)

section Pieces

variable {c : Dev nD} {sp sp' : Space} {s s' : Shape} {e : EltTy}

instance anyAt_storable (m : Memref sig .tc sp s e) : BI.Storable (upEmb : UEmb _ 𝕄) (anyAt (F := F) c m) := by
  unfold anyAt; infer_instance

/-- A piece owned at known contents is owned. -/
theorem any_of_owns (m : Memref sig .tc sp s e) (X : s.Idx → Elt F e) :
    (owns (c : Thread nD τ) m fullShare X : sProp 𝕄) ⊢ anyAt c m := by
  unfold owns anyAt
  iintro ⟨%f, -, H⟩; iexists f; iexact H

/-- An owned piece has some contents. -/
theorem owns_of_any (m : Memref sig .tc sp s e) :
    (anyAt (F := F) c m : sProp 𝕄) ⊢ ∃ X, owns (c : Thread nD τ) m fullShare X := by
  unfold anyAt
  iintro ⟨%f, H⟩; iexists m.view.read (Elt F) f
  iapply owns_intro (c : Thread nD τ) m fullShare f; iexact H

/-- Casting a piece to a shape without its unit axes changes nothing owned. -/
theorem any_squeeze (m : Memref sig .tc sp s e) (h : s.Squeezes s') :
    (anyAt (F := F) c (m.squeeze s' h) : sProp 𝕄) = anyAt c m := by
  unfold anyAt
  have hs : (m.squeeze s' h).view.set = m.view.set := View.set_reshape _ _
  rw [hs]

/-- A buffer is each of its parts, -/
theorem any_parts {T : Type} [Fintype T] [DecidableEq T] (m : Memref sig .tc sp s e) (r : T → Rect s)
    (hr : ∀ t a, (r t).stride a = 1) (hd : ∀ t t', t ≠ t' → Disjoint (r t).set (r t').set)
    (hcov : (Finset.univ : Finset T).biUnion (fun t => (r t).set) = Finset.univ) :
    (anyAt (F := F) c m : sProp 𝕄) ⊢ bigSep Finset.univ fun t => anyAt c (m.slice (r t) (hr t)) := by
  refine (owns_of_any m).trans ?_
  iintro ⟨%X, H⟩
  ihave H := ((owns_rects (c : Thread nD τ) m fullShare r hr hd hcov X).trans
    (bigSep_mono fun t _ => any_of_owns (c := c) (m.slice (r t) (hr t)) _)) $$ H
  iexact H

/-- and the parts, at known contents, are the buffer at contents that agree with them. -/
theorem owns_parts {T : Type} [Fintype T] [DecidableEq T] (m : Memref sig .tc sp s e) (r : T → Rect s)
    (hr : ∀ t a, (r t).stride a = 1) (hd : ∀ t t', t ≠ t' → Disjoint (r t).set (r t').set)
    (hcov : (Finset.univ : Finset T).biUnion (fun t => (r t).set) = Finset.univ)
    (X : ∀ t, (r t).shape.Idx → Elt F e) :
    (bigSep Finset.univ fun t => owns (c : Thread nD τ) (m.slice (r t) (hr t)) fullShare (X t) : sProp 𝕄)
      ⊢ ∃ G, ⌜∀ t j, G ((r t).emb j) = X t j⌝ ∗ owns (c : Thread nD τ) m fullShare G := by
  classical
  have hG : ∃ G : s.Idx → Elt F e, ∀ t j, G ((r t).emb j) = X t j := by
    refine ⟨fun i => if h : ∃ p : (t : T) × (r t).shape.Idx, (r p.1).emb p.2 = i then X h.choose.1 h.choose.2
      else Classical.arbitrary _, fun t j => ?_⟩
    have h : ∃ p : (t' : T) × (r t').shape.Idx, (r p.1).emb p.2 = (r t).emb j := ⟨⟨t, j⟩, rfl⟩
    dsimp only
    rw [dif_pos h]
    have hp : h.choose = (⟨t, j⟩ : (t' : T) × (r t').shape.Idx) := by
      have hc := h.choose_spec
      generalize h.choose = p at hc
      obtain ⟨t', j'⟩ := p
      have ht : t' = t := by
        by_contra hne
        have h1 : (r t').emb j' ∈ (r t').set := (r t').map_emb_univ ▸ Finset.mem_map_of_mem _ (Finset.mem_univ _)
        have h2 : (r t).emb j ∈ (r t).set := (r t).map_emb_univ ▸ Finset.mem_map_of_mem _ (Finset.mem_univ _)
        exact Finset.disjoint_left.mp (hd t' t hne) h1 (hc ▸ h2)
      subst ht
      exact congrArg (Sigma.mk t') ((r t').emb.injective hc)
    rw [hp]
  obtain ⟨G, hG⟩ := hG
  iintro H
  iexists G
  isplitr; · ipureintro; exact hG
  iapply owns_of_rects (c : Thread nD τ) m fullShare r hr hd hcov G
  have hX : (fun t => (owns (c : Thread nD τ) (m.slice (r t) (hr t)) fullShare (X t) : sProp 𝕄))
      = fun t => owns (c : Thread nD τ) (m.slice (r t) (hr t)) fullShare (fun j => G ((r t).emb j)) :=
    funext fun t => by rw [show X t = fun j => G ((r t).emb j) from funext fun j => (hG t j).symm]
  rw [← hX]
  iexact H

/-- The parts, at unknown contents, are the buffer. -/
theorem any_of_parts {T : Type} [Fintype T] [DecidableEq T] (m : Memref sig .tc sp s e) (r : T → Rect s)
    (hr : ∀ t a, (r t).stride a = 1) (hd : ∀ t t', t ≠ t' → Disjoint (r t).set (r t').set)
    (hcov : (Finset.univ : Finset T).biUnion (fun t => (r t).set) = Finset.univ) :
    (bigSep Finset.univ fun t => anyAt (F := F) c (m.slice (r t) (hr t)) : sProp 𝕄) ⊢ anyAt c m := by
  refine BIBase.Entails.trans (bigSep_mono fun t _ => owns_of_any (F := F) (c := c) (m.slice (r t) (hr t))) ?_
  iintro H
  ihave H := bigSep_exists_pi Finset.univ
    (fun t X => (owns (c : Thread nD τ) (m.slice (r t) (hr t)) fullShare X : sProp 𝕄)) $$ H
  icases H with ⟨%X, H⟩
  ihave H := owns_parts m r hr hd hcov X $$ H
  icases H with ⟨%G, -, H⟩
  iapply any_of_owns m G; iexact H

/-- A piece of a buffer held at `V` is lent at what it reads there, and taken back. -/
theorem lend (m : Memref sig .tc sp s e) (q : PosShare TreeShare) (V : Buf (Elt F) (m.view.loc (c : Thread nD τ))) :
    (m.view.loc (c : Thread nD τ) ↦{q} V : sProp 𝕄)
      ⊢ owns (c : Thread nD τ) m q (m.view.read (Elt F) V)
        ∗ (owns (c : Thread nD τ) m q (m.view.read (Elt F) V) -∗ m.view.loc (c : Thread nD τ) ↦{q} V) := by
  iintro H
  ihave H := (pointsTo_split_subset (Finset.subset_univ m.view.set)).1 $$ H
  icases H with ⟨H, Hr⟩
  isplitl [H]
  · iapply owns_intro (c : Thread nD τ) m q V; iexact H
  unfold owns
  iintro ⟨%f, %hf, H⟩
  iapply (pointsTo_split_subset (Finset.subset_univ m.view.set)).2
  isplitl [H]
  · rw [pointsTo_congr (fun i hi => show V i = f i from by
      obtain ⟨x, -, rfl⟩ := Finset.mem_map.mp hi
      have := congrFun hf x
      rw [View.read_apply, View.read_apply] at this
      exact (cast_inj _).mp this.symm)]
    iexact H
  · iexact Hr

/-! ## Copies within a device -/

variable {r : PR (F := F)}

/-- A copy within the device, started with its semaphore at zero, is in flight: its wait delivers the source's
    contents in the destination, and the source. -/
theorem copy_start {Q : PUnit.{1} → sProp 𝕄} (src : Memref sig .tc sp s e) (dst : Memref sig .tc sp' s e) (sm : DmaSem sig) (q : PosShare TreeShare)
    (X : s.Idx → Elt F e) {hs : src.view.WordExact} {hd : dst.view.WordExact}
    {ht} (hn : 0 < s.numel) :
    iprop(owns (c : Thread nD τ) src q X ∗ anyAt c dst ∗ semVal ((c : Thread nD τ), .dma sm) 0)
      ⊢ iprop((Flight EC (c : Thread nD τ) (.dma sm) () dst.view.dmaCredit
            iprop(owns (c : Thread nD τ) dst fullShare X ∗ owns (c : Thread nD τ) src q X) -∗ Wp c r Q)
          -∗ Wp c (.op (.enqueueDma src (.here dst) (.dma sm) hs hd ht) fun _ => r) Q) := by
  iintro ⟨Hs, Hd, Hv⟩ Hk
  unfold anyAt owns
  icases Hs with ⟨%fs, %hfs, Hs⟩
  icases Hd with ⟨%fd, Hd⟩
  iapply (wp_dmaLocal EC 𝒱₀ (c : Thread nD τ) none (via := .same) () dst.view.dmaCredit rfl (View.dmaCredit_pos _ hn)
    (Finset.Subset.refl _)) $$ [Hs Hd Hv]
  · isplitl [Hs]; · iexact Hs
    isplitl [Hd]; · iexact Hd
    iexact Hv
  iintro Hf
  iapply Hk
  iapply (Flight_mono EC (c : Thread nD τ) (D := iprop((dst.view.loc (c : Thread nD τ) ↦[dst.view.set]{fullShare}
        (dst.view.write (Elt F) fd (ReadAs.same.apply (src.view.read (Elt F) fs)) Finset.univ))
      ∗ (src.view.loc (c : Thread nD τ) ↦[src.view.set]{q} fs))) ?_) $$ Hf
  iintro ⟨Hd, Hs⟩
  isplitl [Hd]
  · iexists dst.view.write (Elt F) fd (src.view.read (Elt F) fs) Finset.univ
    isplitr
    · ipureintro; exact (View.read_write_univ _ _).trans hfs
    · iexact Hd
  · iexists fs
    isplitr; · ipureintro; exact hfs
    iexact Hs

/-- The wait for a copy within the device delivers what the copy carries, and leaves the semaphore at zero. -/
theorem copy_wait {Q : PUnit.{1} → sProp 𝕄} (sm : DmaSem sig) (srcw : Memref sig .tc sp s e) (dst : Memref sig .tc sp' s e)
    {hs : srcw.view.WordExact} {hd : dst.view.WordExact} {D : sProp 𝕄} {O : CellTallies nD τ sig Unit} :
    iprop(Flight EC (c : Thread nD τ) (.dma sm) () dst.view.dmaCredit D ∗ owing c O ∗ MayWait (c : Thread nD τ) (.dma sm) () O)
      ⊢ iprop((D ∗ semVal ((c : Thread nD τ), .dma sm) 0 ∗ owing c O -∗ Wp c r Q)
          -∗ Wp c (.op (.waitDma2 sm srcw dst hs hd) fun _ => r) Q) := by
  unfold owing
  iintro ⟨Hf, ⟨%W, HO⟩, Hm⟩ Hk
  iapply (wp_waitLocalO EC 𝒱₀ (c : Thread nD τ) none () rfl) $$ [Hf HO Hm]
  · isplitl [Hf]; · iexact Hf
    isplitl [HO]; · iexact HO
    iexact Hm
  iintro ⟨HD, Hv, HO⟩
  iapply Hk
  isplitl [HD]; · iexact HD
  isplitl [Hv]; · iexact Hv
  iexists _; iexact HO

end Pieces

/-! ## Loads and stores of one block -/

section Accesses

variable {c : Dev nD} {e : EltTy} {r : PR (F := F)}

/-- A load of a slot reads the slot's contents, laid out with the slot's unit axis; -/
theorem load_slot {Q : PUnit.{1} → sProp 𝕄} (M : Memref sig .tc .vmem S2x512x1024 e) (s : Fin 2) {q : PosShare TreeShare} {X : S512x1024.Idx → Elt F e}
    {hl : M.view.LoadsAt (slot s).toLoadRect} {k : (S1x512x1024.Idx → Elt F e) → PR (F := F)} :
    (owns (c : Thread nD τ) (slotM M s) q X : sProp 𝕄)
      ⊢ iprop((∀ v : S1x512x1024.Idx → Elt F e, ⌜shapeCast S512x1024 v shapeCasts_S1x512x1024_S512x1024 = X⌝
              -∗ owns (c : Thread nD τ) (slotM M s) q X -∗ Wp c (k v) Q)
          -∗ Wp c (.op (.load M (slot s).toLoadRect hl) k) Q) := by
  unfold owns
  iintro ⟨%f, %hf, H⟩ Hk
  iapply (wp_load 𝒱₀ (c : Thread nD τ) none Set.univ (m := M) (S := (slotM M s).view.set)
    (show M.view.setOn (slot s).set ⊆ (slotM M s).view.set from by
      rw [show (slotM M s).view.set = (M.view.slice (slot s)).set from View.set_reshape _ _, View.set_slice]
      exact Finset.Subset.refl _)) $$ H
  iintro H
  iapply Hk $$ [] [H]
  · ipureintro; exact hf
  · iexists f
    isplitr; · ipureintro; exact hf
    iexact H

/-- a store over a slot leaves the stored block without its unit axis. -/
theorem store_slot {Q : PUnit.{1} → sProp 𝕄} (M : Memref sig .tc .vmem S2x512x1024 e) (s : Fin 2) {w : S1x512x1024.Idx → Elt F e}
    {hx : (M.access (slot s)).Stores Finset.univ} {hm} :
    (anyAt (F := F) c (slotM M s) : sProp 𝕄)
      ⊢ iprop((owns (c : Thread nD τ) (slotM M s) fullShare (shapeCast S512x1024 w shapeCasts_S1x512x1024_S512x1024) -∗ Wp c r Q)
          -∗ Wp c (.op (.store M (slot s) w Finset.univ hx hm) fun _ => r) Q) := by
  unfold owns anyAt
  iintro ⟨%f, H⟩ Hk
  iapply (wp_store 𝒱₀ (c : Thread nD τ) none Set.univ (m := M) (r := slot s) (Mk := Finset.univ)
    (S := (slotM M s).view.set)
    (show (M.access (slot s)).setOn Finset.univ ⊆ (slotM M s).view.set from by
      rw [show (slotM M s).view.set = (M.view.slice (slot s)).set from View.set_reshape _ _]
      exact View.setOn_subset_set _ _)) $$ H
  iintro H
  iapply Hk
  iexists _
  isplitr
  · ipureintro
    show shapeCast S512x1024 ((M.access (slot s)).read (Elt F) ((M.access (slot s)).write (Elt F) f w Finset.univ))
      shapeCasts_S1x512x1024_S512x1024 = _
    rw [View.read_write_univ]
  · iexact H

/-- A load of a row block reads its contents; -/
theorem load_rows {Q : PUnit.{1} → sProp 𝕄} (M : Memref sig .tc .vmem S8192x1024 .bf16) (b : Fin 16) {q : PosShare TreeShare} {X : S512x1024.Idx → Elt F .bf16}
    {hl : M.view.LoadsAt (slab b).toLoadRect} {k : (S512x1024.Idx → Elt F .bf16) → PR (F := F)} :
    (owns (c : Thread nD τ) (rows M b) q X : sProp 𝕄)
      ⊢ iprop((owns (c : Thread nD τ) (rows M b) q X -∗ Wp c (k X) Q)
          -∗ Wp c (.op (.load M (slab b).toLoadRect hl) k) Q) := by
  unfold owns
  iintro ⟨%f, %hf, H⟩ Hk
  iapply (wp_load 𝒱₀ (c : Thread nD τ) none Set.univ (m := M) (S := (rows M b).view.set)
    (show M.view.setOn (slab b).set ⊆ (rows M b).view.set from by
      rw [show (rows M b).view.set = (M.view.slice (slab b)).set from rfl, View.set_slice]
      exact Finset.Subset.refl _)) $$ H
  iintro H
  rw [show M.view.readAt (Elt F) (slab b).toLoadRect f = X from hf]
  iapply Hk
  iexists f
  isplitr; · ipureintro; exact hf
  iexact H

/-- a store over a row block leaves the stored block. -/
theorem store_rows {Q : PUnit.{1} → sProp 𝕄} (M : Memref sig .tc .vmem S8192x1024 .bf16) (b : Fin 16) {w : S512x1024.Idx → Elt F .bf16}
    {hx : (M.access (slab b)).Stores Finset.univ} {hm} :
    (anyAt (F := F) c (rows M b) : sProp 𝕄)
      ⊢ iprop((owns (c : Thread nD τ) (rows M b) fullShare w -∗ Wp c r Q)
          -∗ Wp c (.op (.store M (slab b) w Finset.univ hx hm) fun _ => r) Q) := by
  unfold owns anyAt
  iintro ⟨%f, H⟩ Hk
  iapply (wp_store 𝒱₀ (c : Thread nD τ) none Set.univ (m := M) (r := slab b) (Mk := Finset.univ)
    (S := (rows M b).view.set)
    (show (M.access (slab b)).setOn Finset.univ ⊆ (rows M b).view.set from View.setOn_subset_set _ _)) $$ H
  iintro H
  iapply Hk
  iexists _
  isplitr
  · ipureintro
    show (M.access (slab b)).read (Elt F) ((M.access (slab b)).write (Elt F) f w Finset.univ) = _
    rw [View.read_write_univ]
  · iexact H

end Accesses

/-! ## The parts of the buffers -/

theorem slab_disjoint (k k' : Fin 16) (h : k ≠ k') : Disjoint (slab k).set (slab k').set := by
  rw [Finset.disjoint_left]
  intro y hy hy'
  rw [Rect.mem_set_unit] at hy hy'
  have h1 := hy 0; have h2 := hy' 0
  simp only [Matrix.cons_val_zero] at h1 h2
  have : S512x1024.size 0 = 512 := rfl
  apply h; apply Fin.ext; omega
theorem slab_cover : (Finset.univ : Finset (Fin 16)).biUnion (fun k => (slab k).set) = Finset.univ := by
  ext y
  simp only [Finset.mem_biUnion, Finset.mem_univ, true_and, iff_true]
  have h0 : (y 0).val < 8192 := (y 0).isLt
  refine ⟨⟨(y 0).val / 512, by omega⟩, ?_⟩
  rw [Rect.mem_set_unit]
  intro a
  fin_cases a
  · have : S512x1024.size 0 = 512 := rfl
    simp only [Fin.mk_zero, Fin.zero_eta, Matrix.cons_val_zero]; omega
  · have h1 : (y 1).val < 1024 := (y 1).isLt
    have : S512x1024.size 1 = 1024 := rfl
    simp only [Fin.mk_one, Matrix.cons_val_one]; simp; omega

theorem slot_disjoint (k k' : Fin 2) (h : k ≠ k') : Disjoint (slot k).set (slot k').set := by
  rw [Finset.disjoint_left]
  intro y hy hy'
  rw [Rect.mem_set_unit] at hy hy'
  have h1 := hy 0; have h2 := hy' 0
  simp only [Matrix.cons_val_zero] at h1 h2
  have : S1x512x1024.size 0 = 1 := rfl
  apply h; apply Fin.ext; omega
theorem slot_cover : (Finset.univ : Finset (Fin 2)).biUnion (fun k => (slot k).set) = Finset.univ := by
  ext y
  simp only [Finset.mem_biUnion, Finset.mem_univ, true_and, iff_true]
  refine ⟨y 0, ?_⟩
  rw [Rect.mem_set_unit]
  intro a
  fin_cases a
  · have : S1x512x1024.size 0 = 1 := rfl
    simp only [Fin.zero_eta, Matrix.cons_val_zero]; omega
  · have h1 : (y 1).val < 512 := (y 1).isLt
    have : S1x512x1024.size 1 = 512 := rfl
    simp; omega
  · have h1 : (y 2).val < 1024 := (y 2).isLt
    have : S1x512x1024.size 2 = 1024 := rfl
    simp; omega

section Split

variable (c : Dev nD)

/-- A buffer of rows is its sixteen blocks, -/
theorem any_rows {sp : Space} (M : Memref sig .tc sp S8192x1024 .bf16) :
    (anyAt (F := F) c M : sProp 𝕄) ⊢ bigSep Finset.univ fun k => anyAt c (rows M k) :=
  any_parts M slab (fun _ _ => rfl) slab_disjoint slab_cover
/-- and back. -/
theorem any_of_rows {sp : Space} (M : Memref sig .tc sp S8192x1024 .bf16) :
    (bigSep Finset.univ fun k => anyAt (F := F) c (rows M k) : sProp 𝕄) ⊢ anyAt c M :=
  any_of_parts M slab (fun _ _ => rfl) slab_disjoint slab_cover
/-- Sixteen blocks at known contents are the buffer at contents that agree with them. -/
theorem owns_of_rows {sp : Space} (M : Memref sig .tc sp S8192x1024 .bf16) (X : Fin 16 → S512x1024.Idx → Elt F .bf16) :
    (bigSep Finset.univ fun k => owns (c : Thread nD τ) (rows M k) fullShare (X k) : sProp 𝕄)
      ⊢ ∃ G : S8192x1024.Idx → Elt F .bf16, ⌜∀ k j, G ((slab k).emb j) = X k j⌝ ∗ owns (c : Thread nD τ) M fullShare G :=
  owns_parts M slab (fun _ _ => rfl) slab_disjoint slab_cover X
/-- A staging buffer is its two slots, -/
theorem any_slots {e : EltTy} (M : Memref sig .tc .vmem S2x512x1024 e) :
    (anyAt (F := F) c M : sProp 𝕄) ⊢ anyAt c (slotM M 0) ∗ anyAt c (slotM M 1) := by
  rw [any_squeeze, any_squeeze]
  refine (any_parts M slot (fun _ _ => rfl) slot_disjoint slot_cover).trans ?_
  rw [bigSep_fin_two]; exact .rfl
/-- and back. -/
theorem any_of_slots {e : EltTy} (M : Memref sig .tc .vmem S2x512x1024 e) :
    (iprop(anyAt (F := F) c (slotM M 0) ∗ anyAt c (slotM M 1)) : sProp 𝕄) ⊢ anyAt c M := by
  rw [any_squeeze, any_squeeze]
  refine BIBase.Entails.trans ?_ (any_of_parts M slot (fun _ _ => rfl) slot_disjoint slot_cover)
  rw [bigSep_fin_two]
  exact BIBase.Entails.rfl

end Split

end Cert.KernelIdeal.Rs
-- ==== Proof.ProtoIdeal.lean ====
/-
# What the devices hand each other

Device `c` works with the one device whose `y` coordinate differs, its peer. Three kinds of semaphore are
shared between devices, each used for one round.

* The barrier. The peer's signal hands over the peer's receive buffer, block by block.
* The receive semaphore of block `k`. The peer's transfer hands over block `k` of the receive buffer, holding
  the peer's block cast to the width it travels in.
* The send semaphore of block `k`. The transfer hands back block `k` of the send buffer.

A device owes its peer one barrier signal and sixteen transfers. It waits for the barrier while it still owes
the transfers, so barrier semaphores rank below receive semaphores, and those of copies within the device
rank below both.
-/
module

public import proofs.«01_k».proof.Proof.OwnIdeal

@[expose] public section

noncomputable section

namespace Cert.KernelIdeal.Rs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-! ## The peer -/

/-- The device at the other `y` coordinate. -/
def peer (c : Dev nD) : Dev nD := ⟨(8 * (c.val / 8) + 4 * (1 - c.val / 4 % 2) + c.val % 4) % 16, Nat.mod_lt _ (by decide)⟩

theorem peer_peer (c : Dev nD) : peer (peer c) = c := by revert c; decide
theorem tgt_eq (c : Dev nD) (k : Fin 16) : tgt c k = peer c := by revert k c; decide
theorem dev1_eq (c : Dev nD) : (⟨k0_dev1 c, k0_dev1_lt c⟩ : Dev nD) = peer c := by revert c; decide
def swap : Dev nD ≃ Dev nD := ⟨peer, peer, peer_peer, peer_peer⟩

/-! ## The values -/

/-- A block cast to the width it travels in. -/
def narrowed (X : FVec F S512x1024 .f32) : FVec F S512x1024 .bf16 :=
  shapeCast S512x1024 (truncf .bf16 X bitsLt_bf16_f32) shapeCasts_S512x1024_S512x1024
/-- Block `k` of what device `c` sends: of its argument, the columns the peer keeps. -/
def sent (c : Dev nD) (k : Fin 16) : FVec F S512x1024 .bf16 :=
  narrowed ((xA c k).view.read (Elt F) (m ((c : Thread nD τ).loc main_arg0)))
/-- Block `k` of device `c`'s result: what the peer sent plus the own columns cast. -/
def outVal (c : Dev nD) (k : Fin 16) : FVec F S512x1024 .bf16 :=
  addf (sent m (peer c) k) (truncf .bf16 ((xO c k).view.read (Elt F) (m ((c : Thread nD τ).loc main_arg0))) bitsLt_bf16_f32)

/-! ## The shared cells -/

abbrev barCell (c : Dev nD) : GSem nD τ sig := ((c : Thread nD τ), .reg barS)
abbrev sendCell (c : Dev nD) (k : Fin 16) : GSem nD τ sig := ((c : Thread nD τ), .dma (sS k))
abbrev recvCell (c : Dev nD) (k : Fin 16) : GSem nD τ sig := ((c : Thread nD τ), .dma (rS k))

/-- A device's shared cells: its barrier, its sixteen send (`false`) and its sixteen receive (`true`) cells. -/
abbrev CellIx : Type := Unit ⊕ (Fin 16 ⊕ Fin 16)
abbrev csem : CellIx → SemLoc sig
  | .inl _ => .reg barS
  | .inr (.inl k) => .dma (sS k)
  | .inr (.inr k) => .dma (rS k)
abbrev kcell (ck : Dev nD × CellIx) : GSem nD τ sig := ((ck.1 : Thread nD τ), csem ck.2)

/-- The units one block's transfer credits. -/
def N : ℕ := (rows rB 0).view.dmaCredit
theorem N_pos : 0 < N := View.dmaCredit_pos _ (by decide)
theorem credit_rB (k : Fin 16) : (rows rB k).view.dmaCredit = N := rfl
theorem credit_sB (k : Fin 16) : (rows sB k).view.dmaCredit = N := rfl

theorem sS_val (k : Fin 16) : (sS k).val = 4 + k.val := by revert k; decide
theorem rS_val (k : Fin 16) : (rS k).val = 20 + k.val := by revert k; decide
theorem aS_val (s : Fin 2) : (aS s).val = s.val := by revert s; decide
theorem bS_val (s : Fin 2) : (bS s).val = 2 + s.val := by revert s; decide
theorem oS_val (k : Fin 16) : (oS k).val = 36 + k.val := by revert k; decide

/-- The block a semaphore `base` to `base + 15` is of. -/
def blockOf (d : DmaSem sig) (base : ℕ) : Fin 16 := ⟨(d.val - base) % 16, Nat.mod_lt _ (by decide)⟩
theorem blockOf_sS (k : Fin 16) : blockOf (sS k) 4 = k := by revert k; decide
theorem blockOf_rS (k : Fin 16) : blockOf (rS k) 20 = k := by revert k; decide

/-- What each cell hands to the device it is on. -/
def pay (c : Dev nD) : SemLoc sig → sProp 𝕄
  | .reg _ => bigSep Finset.univ fun k => anyAt (peer c) (rows rB k)
  | .dma d => if d.val < 20 then anyAt c (rows sB (blockOf d 4))
      else owns (c : Thread nD τ) (rows rB (blockOf d 20)) fullShare (sent m (peer c) (blockOf d 20))

/-- One round: a barrier cell of one unit, a send or a receive cell of a block's units. -/
def Rd : Rounds.Schedule (GSem nD τ sig) Unit 𝕄 where
  duties g r := if r = 0 then {()} else ∅
  unitless _ := False
  amount g _ _ := match g.2 with
    | .reg _ => 1
    | .dma _ => N
  payload g _ _ := pay m g.1.1 g.2
  amount_pos g _ _ _ := by
    rcases g with ⟨t, s | d⟩
    · exact Nat.one_pos
    · exact N_pos

instance pay_storable (c : Dev nD) (s : SemLoc sig) : BI.Storable (upEmb : UEmb _ 𝕄) (pay m c s) := by
  unfold pay
  rcases s with s | d
  · infer_instance
  · dsimp only; split <;> infer_instance
instance Rd_payload_storable (g : GSem nD τ sig) (r : ℕ) (d : Unit) :
    BI.Storable (upEmb : UEmb _ 𝕄) ((Rd (F := F) m).payload g r d) := pay_storable m g.1.1 g.2

theorem pay_bar (c : Dev nD) : pay (F := F) m c (.reg barS) = bigSep Finset.univ fun k => anyAt (peer c) (rows rB k) := rfl
theorem pay_send (c : Dev nD) (k : Fin 16) : pay (F := F) m c (.dma (sS k)) = anyAt c (rows sB k) := by
  unfold pay
  dsimp only
  rw [if_pos (by rw [sS_val]; omega), blockOf_sS]
theorem pay_recv (c : Dev nD) (k : Fin 16) :
    pay (F := F) m c (.dma (rS k)) = owns (c : Thread nD τ) (rows rB k) fullShare (sent m (peer c) k) := by
  unfold pay
  dsimp only
  rw [if_neg (by rw [rS_val]; omega), blockOf_rS]

theorem duties_first (g : GSem nD τ sig) : (Rd (F := F) m).duties g 0 = {()} := rfl
theorem duties_later (g : GSem nD τ sig) : ∀ r, 1 ≤ r → (Rd (F := F) m).duties g r = ∅ :=
  fun r hr => if_neg (by omega)
theorem mem_duty (g : GSem nD τ sig) : () ∈ (Rd (F := F) m).duties g 0 := by rw [duties_first]; exact Finset.mem_singleton_self _
theorem expect_first (g : GSem nD τ sig) : (Rd (F := F) m).expect g 0 = (Rd (F := F) m).amount g 0 () := by
  unfold Schedule.expect Schedule.amountOf; rw [duties_first, Finset.sum_singleton]
theorem rest_first (g : GSem nD τ sig) :
    bigSep ((Rd (F := F) m).duties g 0 \ ∅) (fun d => (Rd (F := F) m).payload g 0 d) = pay m g.1.1 g.2 := by
  rw [Finset.sdiff_empty, duties_first, bigSep_singleton]; rfl

/-! ## Blocks before and from a number on -/

abbrev upto (n : ℕ) : Finset (Fin 16) := Finset.univ.filter fun k => k.val < n
abbrev from' (n : ℕ) : Finset (Fin 16) := Finset.univ.filter fun k => n ≤ k.val

theorem from_eq (n : ℕ) (h : n < 16) : from' n = insert ⟨n, h⟩ (from' (n + 1)) := by
  ext k; simp only [Finset.mem_filter, Finset.mem_univ, true_and, Finset.mem_insert, Fin.ext_iff]; omega
theorem upto_eq (n : ℕ) (h : n < 16) : upto (n + 1) = insert ⟨n, h⟩ (upto n) := by
  ext k; simp only [Finset.mem_filter, Finset.mem_univ, true_and, Finset.mem_insert, Fin.ext_iff]; omega
theorem notMem_from (n : ℕ) (h : n < 16) : (⟨n, h⟩ : Fin 16) ∉ from' (n + 1) := by simp
theorem notMem_upto (n : ℕ) (h : n < 16) : (⟨n, h⟩ : Fin 16) ∉ upto n := by simp
theorem from_zero : from' 0 = Finset.univ := by ext k; simp
theorem from_end : from' 16 = ∅ := by ext k; simp
theorem upto_zero : upto 0 = ∅ := by ext k; simp
theorem upto_end : upto 16 = Finset.univ := by ext k; simp

theorem from_pop (P : Fin 16 → sProp 𝕄) (n : ℕ) (h : n < 16) :
    bigSep (from' n) P = iprop(P ⟨n, h⟩ ∗ bigSep (from' (n + 1)) P) := by
  rw [from_eq n h, bigSep_insert (notMem_from n h)]; rfl
theorem upto_push (P : Fin 16 → sProp 𝕄) (n : ℕ) (h : n < 16) :
    bigSep (upto (n + 1)) P = iprop(P ⟨n, h⟩ ∗ bigSep (upto n) P) := by
  rw [upto_eq n h, bigSep_insert (notMem_upto n h)]; rfl

/-! ## What is owed -/

/-- Device `c` owes its peer the transfers of block `n` on, -/
def owedFrom (n : ℕ) (c : Dev nD) : CellTallies nD τ sig Unit := ∑ k ∈ from' n, tallyAt (recvCell (peer c) k) () N
/-- and at the start a barrier signal too. -/
def O₀ (c : Dev nD) : CellTallies nD τ sig Unit := owedFrom 0 c + tallyAt (barCell (peer c)) () 1

theorem owedFrom_pop (c : Dev nD) (n : ℕ) (h : n < 16) :
    owedFrom n c = owedFrom (n + 1) c + tallyAt (recvCell (peer c) ⟨n, h⟩) () N := by
  unfold owedFrom; rw [from_eq n h, Finset.sum_insert (notMem_from n h), add_comm]
theorem owedFrom_end (c : Dev nD) : owedFrom 16 c = 0 := by unfold owedFrom; rw [from_end, Finset.sum_empty]

theorem owedFrom_pos {n : ℕ} {c : Dev nD} {g : GSem nD τ sig} {u : Unit} (h : 0 < owedFrom n c g u) :
    ∃ k, g = recvCell (peer c) k := by
  by_contra hn
  rw [not_exists] at hn
  unfold owedFrom at h
  rw [Finset.sum_apply, Finsupp.finset_sum_apply, Finset.sum_eq_zero fun k _ => by
    rw [tallyAt_apply, if_neg fun h' => hn k h'.1]] at h
  exact Nat.lt_irrefl 0 h

def L (g : GSem nD τ sig) : Finset Unit := if g.1.2 = .tc then {()} else ∅
/-- Barrier cells at 1, receive cells at 2, everything else at 0. -/
def lv (g : GSem nD τ sig) (_ : Unit) : ℕ := match g.2 with
  | .reg _ => 1
  | .dma d => if 20 ≤ d.val ∧ d.val < 36 then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (k : Fin 16) (u : Unit) : lv (recvCell c k) u = 2 :=
  if_pos (by rw [rS_val]; have := k.isLt; omega)

theorem O₀_pos {c : Dev nD} {g : GSem nD τ sig} {u : Unit} (h : 0 < O₀ c g u) :
    (∃ k, g = recvCell (peer c) k) ∨ g = barCell (peer c) := by
  unfold O₀ at h
  rw [Pi.add_apply, Finsupp.add_apply, tallyAt_apply] at h
  by_cases hb : g = barCell (peer c) ∧ u = ()
  · exact .inr hb.1
  · rw [if_neg hb, add_zero] at h; exact .inl (owedFrom_pos h)

/-- A wait on a semaphore that ranks below the receive cells is allowed while transfers are owed, -/
theorem mayWait_low (c : Dev nD) (n : ℕ) (sm : SemLoc sig) (h : lv ((c : Thread nD τ), sm) () ≤ 1) :
    (levAts L lv : sProp 𝕄) ⊢ MayWait (c : Thread nD τ) sm () (owedFrom n c) :=
  MayOwe.of_cut (L := L) (lev := lv) 1 (fun p hp => by rw [Finset.mem_singleton.mp hp, L_tc]; exact Finset.mem_singleton_self _)
    (fun g u hg => by obtain ⟨k, rfl⟩ := owedFrom_pos hg; rw [L_tc]; exact Finset.mem_singleton_self _)
    (fun p hp => by rw [Finset.mem_singleton.mp hp]; exact h)
    (fun g u hg => by obtain ⟨k, rfl⟩ := owedFrom_pos hg; rw [lv_recv]; decide)

/-- and one that ranks below the barrier cells while all is owed. -/
theorem mayWait_stage (c : Dev nD) (q : DmaSem sig) (hq : ¬ (20 ≤ q.val ∧ q.val < 36)) (O : CellTallies nD τ sig Unit)
    (hO : O = O₀ c ∨ O = 0) : (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | rfl <;> exact Finset.mem_singleton_self _)
      (fun p hp => by rw [Finset.mem_singleton.mp hp]; dsimp only [lv]; rw [if_neg hq])
      (fun g u hg => by
        rcases O₀_pos hg with ⟨k, rfl⟩ | rfl
        · rw [lv_recv]; decide
        · exact Nat.one_pos)
  · rw [MayWait_zero]; iintro -; iempintro

theorem lv_aS (c : Dev nD) (s : Fin 2) : lv ((c : Thread nD τ), .dma (aS s)) () ≤ 1 := by
  dsimp only [lv]; rw [if_neg (by rw [aS_val]; omega)]; decide
theorem lv_bar (c : Dev nD) : lv (barCell c) () ≤ 1 := Nat.le_refl _

/-! ## The cells' records -/

variable (K : Dev nD × CellIx → ℕ)

/-- Every shared cell's invariant, under the names `K`, and that each is in its round. -/
def records : sProp 𝕄 :=
  bigSep Finset.univ fun ck => iprop(cellInv ER (Rd m) (K ck) (kcell ck) ∗ reached ER (kcell ck) 0)
instance records_persistent : BI.Persistent (records m K) := by unfold records; infer_instance

theorem inv_at (ck : Dev nD × CellIx) : records m K ⊢ cellInv ER (Rd m) (K ck) (kcell ck) := by
  unfold records
  refine BIBase.Entails.trans (bigSep_elim (Finset.mem_univ ck)) ?_
  iintro H
  icases H with ⟨H, -⟩; iexact H
theorem reached_at (ck : Dev nD × CellIx) : records m K ⊢ reached ER (kcell ck) 0 := by
  unfold records
  refine BIBase.Entails.trans (bigSep_elim (Finset.mem_univ ck)) ?_
  iintro H
  icases H with ⟨-, H⟩; iexact H

/-- What a device's run may always use: the cells' records and the ranks. -/
def ctx : sProp 𝕄 := iprop(records m K ∗ levAts L lv)
instance ctx_persistent : BI.Persistent (ctx m K) := by unfold ctx; infer_instance

/-! ## The operations on shared cells -/

section Ops

variable (c : Dev nD) {r : PR (F := F)}

/-- The signal hands the receive buffer's blocks to the peer. -/
theorem signal_step {Q : PUnit.{1} → sProp 𝕄} :
    iprop(ctx m K ∗ owing c (O₀ c) ∗ dutyTok ER (barCell (peer c)) 0 () ∗ bigSep Finset.univ fun k => anyAt c (rows rB k))
      ⊢ iprop((owing c (owedFrom 0 c) -∗ Wp c r Q)
          -∗ Wp c (.op (.semSignal (Dev.tc (⟨k0_dev1 c, k0_dev1_lt c⟩ : Dev nD)) barS 1) fun _ => r) Q) := by
  rw [dev1_eq]
  unfold ctx owing
  iintro ⟨⟨#HR, -⟩, ⟨%W, HO⟩, Ht, Hb⟩ Hk
  iapply (Rounds.wp_signal 𝒱₀ ER (Rd m) (c : Thread nD τ) none (dst := (peer c : Thread nD τ)) (κ := K (peer c, .inl ())) (d := ())
    (mem_duty m _) rfl () (owedFrom 0 c) rfl) $$ [HO Ht Hb]
  · isplitr; · iapply (inv_at m K (peer c, .inl ())); iexact HR
    isplitl [HO]; · iexact HO
    isplitl [Ht]; · iexact Ht
    isplitl [Hb]
    · have h : (Rd (F := F) m).payload (barCell (peer c)) 0 () = bigSep Finset.univ fun k => anyAt c (rows rB k) := by
        show pay m (peer c) (.reg barS) = _
        rw [pay_bar, peer_peer]
      rw [h]; iexact Hb
    · iapply (reached_at m K (peer c, .inl ())); iexact HR
  iintro HO
  iapply Hk
  iexists W; iexact HO

/-- The barrier's wait delivers the peer's receive buffer, block by block. -/
theorem barrier_step {Q : PUnit.{1} → sProp 𝕄} :
    iprop(ctx m K ∗ owing c (owedFrom 0 c) ∗ cred (tallyAt (barCell c) () 1) ∗ atPos ER (barCell c) 0 ∅ 0)
      ⊢ iprop(((bigSep Finset.univ fun k => anyAt (peer c) (rows rB k)) ∗ semVal (barCell c) 0 ∗ owing c (owedFrom 0 c) -∗ Wp c r Q)
          -∗ Wp c (.op (.semWait barS 1) fun _ => r) Q) := by
  unfold ctx owing
  iintro ⟨⟨#HR, #HL⟩, ⟨%W, HO⟩, Hc, Hp⟩ Hk
  ihave #HI := (inv_at m K (c, .inl ())) $$ HR
  iapply (Rounds.wp_wait_rest_token 𝒱₀ ER (Rd m) (c : Thread nD τ) none (κ := K (c, .inl ())) (wpE_semWait_eq 𝒱₀ (c : Thread nD τ) none Set.univ)
    (Set.mem_univ _) () (O := owedFrom 0 c) (W := W) (R := 0) (m := 0) (T := ∅) (by rw [expect_first]; rfl)) $$ [HO Hc Hp]
  · isplitr; · iexact HI
    isplitl [Hc]; · iexact Hc
    isplitl [HO]; · iexact HO
    isplitr
    · iapply (mayWait_low c 0 (.reg barS) (lv_bar c)); iexact HL
    · iexact Hp
  rw [rest_first, show pay m (barCell c).1.1 (barCell c).2 = bigSep Finset.univ fun k => anyAt (peer c) (rows rB k) from pay_bar m c]
  iintro ⟨HO, Hp, -, Hpay⟩
  imod (Rounds.cell_close ER (Rd m) (Set.mem_univ (K (c, .inl ()))) (fun h => h) (R := 0 + 1) (duties_later m (barCell c))) $$ [Hp] with Hz
  · isplitr; · iexact HI
    iexact Hp
  iapply Hk
  isplitl [Hpay]; · iexact Hpay
  isplitl [Hz]; · iexact Hz
  iexists _; iexact HO

/-- A wait on a send or receive cell, nothing owed, delivers what the cell hands over. -/
theorem xfer_wait {Q : PUnit.{1} → sProp 𝕄} {sp sp' : Space} {s : Shape} {e : EltTy} (j : Fin 16 ⊕ Fin 16) (d : DmaSem sig)
    (hd : csem (.inr j) = .dma d)
    (srcw : Memref sig .tc sp s e) (dst : Memref sig .tc sp' s e) {hs : srcw.view.WordExact} {hdx : dst.view.WordExact}
    (hN : dst.view.dmaCredit = N) :
    iprop(ctx m K ∗ owing c 0 ∗ cred (tallyAt ((c : Thread nD τ), .dma d) () N) ∗ atPos ER ((c : Thread nD τ), .dma d) 0 ∅ 0)
      ⊢ iprop((pay m c (.dma d) ∗ semVal ((c : Thread nD τ), .dma d) 0 ∗ owing c 0 -∗ Wp c r Q)
          -∗ Wp c (.op (.waitDma2 d srcw dst hs hdx) fun _ => r) Q) := by
  unfold ctx owing
  iintro ⟨⟨#HR, #HL⟩, ⟨%W, HO⟩, Hc, Hp⟩ Hk
  have hI : records m K ⊢ cellInv ER (Rd m) (K (c, .inr j)) ((c : Thread nD τ), .dma d) := by
    rw [← hd]; exact inv_at m K (c, .inr j)
  ihave #HI := hI $$ HR
  iapply (Rounds.wp_wait_rest_token 𝒱₀ ER (Rd m) (c : Thread nD τ) none (κ := K (c, .inr j)) (wpE_waitDma2_eq 𝒱₀ (c : Thread nD τ) none Set.univ)
    (Set.mem_univ _) () (O := 0) (W := W) (R := 0) (m := 0) (T := ∅) (by rw [expect_first, hN]; rfl)) $$ [HO Hc Hp]
  · isplitr; · iexact HI
    isplitl [Hc]; · rw [hN]; iexact Hc
    isplitl [HO]; · iexact HO
    isplitr
    · rw [MayWait_zero]; iempintro
    · iexact Hp
  rw [rest_first]
  iintro ⟨HO, Hp, -, Hpay⟩
  imod (Rounds.cell_close ER (Rd m) (Set.mem_univ (K (c, .inr j))) (fun h => h) (R := 0 + 1)
    (duties_later m ((c : Thread nD τ), .dma d))) $$ [Hp] with Hz
  · isplitr; · iexact HI
    iexact Hp
  iapply Hk
  isplitl [Hpay]; · iexact Hpay
  isplitl [Hz]; · iexact Hz
  iexists _; iexact HO

/-- The wait for the peer's block `k` delivers it; -/
theorem waitR_step {Q : PUnit.{1} → sProp 𝕄} (k : Fin 16) :
    iprop(ctx m K ∗ owing c 0 ∗ cred (tallyAt (recvCell c k) () N) ∗ atPos ER (recvCell c k) 0 ∅ 0)
      ⊢ iprop((owns (c : Thread nD τ) (rows rB k) fullShare (sent m (peer c) k) ∗ semVal (recvCell c k) 0 ∗ owing c 0 -∗ Wp c r Q)
          -∗ Wp c (waitR k r) Q) := by
  rw [← pay_recv]
  exact xfer_wait m K c (.inr k) (rS k) rfl _ _ (credit_rB k)

/-- the wait for block `k` to have left gives its place in the send buffer back. -/
theorem waitS_step {Q : PUnit.{1} → sProp 𝕄} (k : Fin 16) :
    iprop(ctx m K ∗ owing c 0 ∗ cred (tallyAt (sendCell c k) () N) ∗ atPos ER (sendCell c k) 0 ∅ 0)
      ⊢ iprop((anyAt c (rows sB k) ∗ semVal (sendCell c k) 0 ∗ owing c 0 -∗ Wp c r Q)
          -∗ Wp c (waitS k r) Q) := by
  rw [← pay_send m]
  exact xfer_wait m K c (.inl k) (sS k) rfl _ _ (credit_sB k)

/-- The transfer of block `k` pays the peer's receive cell and the own send cell. -/
theorem send_step {Q : PUnit.{1} → sProp 𝕄} (k : Fin 16) :
    iprop(ctx m K ∗ owing c (owedFrom k.val c) ∗ owns (c : Thread nD τ) (rows sB k) fullShare (sent m c k) ∗ anyAt (peer c) (rows rB k)
        ∗ dutyTok ER (sendCell c k) 0 () ∗ dutyTok ER (recvCell (peer c) k) 0 ())
      ⊢ iprop((cred (tallyAt (sendCell c k) () N) ∗ owing c (owedFrom (k.val + 1) c) -∗ Wp c r Q)
          -∗ Wp c (sendK c k r) Q) := by
  unfold sendK
  have htgt := tgt_eq c k
  generalize_proofs
  generalize tgt c k = n at *
  subst htgt
  unfold ctx owing
  iintro ⟨⟨#HR, -⟩, ⟨%W, HO⟩, Hs, Hd, Ht₁, Ht₂⟩ Hk
  unfold owns anyAt
  icases Hs with ⟨%fs, %hfs, Hs⟩
  icases Hd with ⟨%fd, Hd⟩
  iapply (Rounds.wp_send_pointsTo 𝒱₀ ER (Rd m) (c : Thread nD τ) none (κ₁ := K (c, .inr (.inl k))) (κ₂ := K (peer c, .inr (.inr k)))
    (r₁ := 0) (r₂ := 0) (d₁ := ()) (d₂ := ()) (fd := fd) (mem_duty m _) (mem_duty m _) () () N rfl rfl rfl
    (owedFrom (k.val + 1) c) (owedFrom_pop c k.val k.isLt) (W := W)
    (by
      show _ ⊢ pay m c (.dma (sS k))
      rw [pay_send]; unfold anyAt; iintro H; iexists fs; iexact H)
    (by
      show _ ⊢ pay m (peer c) (.dma (rS k))
      rw [pay_recv, peer_peer]; unfold owns; iintro H; iexists (rows rB k).view.write (Elt F) fd ((rows sB k).view.read (Elt F) fs) Finset.univ
      isplitr
      · ipureintro; exact (View.read_write_univ _ _).trans hfs
      · iexact H)) $$ [HO Hs Hd Ht₁ Ht₂]
  · isplitr; · iapply (inv_at m K (c, .inr (.inl k))); iexact HR
    isplitr; · iapply (inv_at m K (peer c, .inr (.inr k))); iexact HR
    isplitl [Hs]; · iexact Hs
    isplitl [Hd]; · iexact Hd
    isplitl [HO]; · iexact HO
    isplitl [Ht₁]; · iexact Ht₁
    isplitr; · iapply (reached_at m K (c, .inr (.inl k))); iexact HR
    isplitl [Ht₂]; · iexact Ht₂
    iapply (reached_at m K (peer c, .inr (.inr k))); iexact HR
  iintro ⟨Hc, HO⟩
  iapply Hk
  isplitl [Hc]; · iexact Hc
  iexists W; iexact HO

end Ops

end Cert.KernelIdeal.Rs
-- ==== Proof.BodyIdeal.lean ====
/-
# The body

Each step of the two loops as a rule from what the device holds before it to what it holds after, the loops by
induction, and the whole body from what the launch gives device `c` to what it ends with. The names of the
blocks are the only thing that changes from one step to the next.
-/
module

public import proofs.«01_k».proof.Proof.ProtoIdeal

@[expose] public section

noncomputable section

namespace Cert.KernelIdeal.Rs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (c : Dev nD)

/-! ## The argument, held in two shares: one per staging slot -/

/-- The slot a number is staged in. -/
abbrev pr (n : ℕ) : Fin 2 := ⟨n % 2, Nat.mod_lt _ (by decide)⟩
theorem pr_two (n : ℕ) : pr (n + 2) = pr n := Fin.ext (by simp)

/-- The share of the argument the copies into slot `s` read through. -/
def part (s : Fin 2) : PosShare TreeShare := if s = 0 then fullShare.left else fullShare.right

/-- The argument of device `c` at share `q`. -/
def arg (q : PosShare TreeShare) : sProp 𝕄 :=
  (c : Thread nD τ).loc main_arg0 ↦{q} m ((c : Thread nD τ).loc main_arg0)

theorem arg_parts : arg m c fullShare ⊣⊢ iprop(arg m c (part 0) ∗ arg m c (part 1)) :=
  pointsTo_share (PosShare.left_op_right fullShare ▸ Part.mem_some _)

/-! ## Staging -/

section Staging

variable (M : Memref sig .tc .vmem S2x512x1024 .f32) (sm : Fin 2 → DmaSem sig)
variable (src : Fin 16 → Memref sig .tc .hbm S512x1024 .f32) (X : Fin 16 → S512x1024.Idx → Elt F .f32)

/-- Slot `s` is free: its memory, its semaphore at zero, its share of the argument. -/
def idle (s : Fin 2) : sProp 𝕄 :=
  iprop(anyAt c (slotM M s) ∗ semVal ((c : Thread nD τ), .dma (sm s)) 0 ∗ arg m c (part s))

theorem idle_open (s : Fin 2) : idle m c M sm s
    ⊢ iprop(anyAt c (slotM M s) ∗ semVal ((c : Thread nD τ), .dma (sm s)) 0 ∗ arg m c (part s)) := BIBase.Entails.rfl

/-- Block `i` is on its way into its slot. -/
def busy (i : Fin 16) : sProp 𝕄 :=
  iprop(Flight EC (c : Thread nD τ) (.dma (sm (par i))) () (slotM M (par i)).view.dmaCredit
      iprop(owns (c : Thread nD τ) (slotM M (par i)) fullShare (X i) ∗ owns (c : Thread nD τ) (src i) (part (par i)) (X i))
    ∗ (owns (c : Thread nD τ) (src i) (part (par i)) (X i) -∗ arg m c (part (par i))))

/-- Block `n` is on its way, or its slot is free when there is no such block. -/
def staged (n : ℕ) : sProp 𝕄 := if h : n < 16 then busy m c M sm src X ⟨n, h⟩ else idle m c M sm (pr n)

theorem staged_lt (i : Fin 16) : staged m c M sm src X i.val = busy m c M sm src X i := dif_pos i.isLt
theorem staged_ge (n : ℕ) (h : ¬ n < 16) : staged m c M sm src X n = idle m c M sm (pr n) := dif_neg h

variable {m c M sm src X} {r : PR (F := F)}

theorem stage_start {Q : PUnit.{1} → sProp 𝕄} (i : Fin 16)
    (hl : ∀ q, arg m c q ⊢ owns (c : Thread nD τ) (src i) q (X i) ∗ (owns (c : Thread nD τ) (src i) q (X i) -∗ arg m c q))
    {hs : (src i).view.WordExact} {hd : (slotM M (par i)).view.WordExact} {ht} :
    idle m c M sm (par i)
      ⊢ iprop((busy m c M sm src X i -∗ Wp c r Q)
          -∗ Wp c (.op (.enqueueDma (src i) (.here (slotM M (par i))) (.dma (sm (par i))) hs hd ht) fun _ => r) Q) := by
  unfold idle busy
  iintro ⟨Hd, Hv, Hx⟩ Hk
  ihave Hx := (hl (part (par i))) $$ Hx
  icases Hx with ⟨Hx, Hb⟩
  iapply (copy_start (src i) (slotM M (par i)) (sm (par i)) (part (par i)) (X i) (by decide)) $$ [Hd Hv Hx]
  · isplitl [Hx]; · iexact Hx
    isplitl [Hd]; · iexact Hd
    iexact Hv
  iintro Hf
  iapply Hk
  isplitl [Hf]; · iexact Hf
  iexact Hb

theorem stage_wait {Q : PUnit.{1} → sProp 𝕄} (i : Fin 16) (O : CellTallies nD τ sig Unit)
    {hs : (src i).view.WordExact} {hd : (slotM M (par i)).view.WordExact} :
    iprop(busy m c M sm src X i ∗ owing c O ∗ MayWait (c : Thread nD τ) (.dma (sm (par i))) () O)
      ⊢ iprop((owns (c : Thread nD τ) (slotM M (par i)) fullShare (X i) ∗ semVal ((c : Thread nD τ), .dma (sm (par i))) 0
            ∗ arg m c (part (par i)) ∗ owing c O -∗ Wp c r Q)
          -∗ Wp c (.op (.waitDma2 (sm (par i)) (src i) (slotM M (par i)) hs hd) fun _ => r) Q) := by
  unfold busy
  iintro ⟨⟨Hf, Hb⟩, HO, Hm⟩ Hk
  iapply (copy_wait (sm (par i)) (src i) (slotM M (par i))) $$ [Hf HO Hm]
  · isplitl [Hf]; · iexact Hf
    isplitl [HO]; · iexact HO
    iexact Hm
  iintro ⟨⟨Hd, Hx⟩, Hv, HO⟩
  ihave Hx := Hb $$ Hx
  iapply Hk
  isplitl [Hd]; · iexact Hd
  isplitl [Hv]; · iexact Hv
  isplitl [Hx]; · iexact Hx
  iexact HO

end Staging

/-- What block `k` of the peer's columns reads, and of the own. -/
abbrev valA (k : Fin 16) : S512x1024.Idx → Elt F .f32 := (xA c k).view.read (Elt F) (m ((c : Thread nD τ).loc main_arg0))
abbrev valB (k : Fin 16) : S512x1024.Idx → Elt F .f32 := (xO c k).view.read (Elt F) (m ((c : Thread nD τ).loc main_arg0))

theorem lendA (k : Fin 16) (q : PosShare TreeShare) :
    arg m c q ⊢ owns (c : Thread nD τ) (xA c k) q (valA m c k) ∗ (owns (c : Thread nD τ) (xA c k) q (valA m c k) -∗ arg m c q) :=
  lend (xA c k) q (m ((c : Thread nD τ).loc main_arg0))
theorem lendB (k : Fin 16) (q : PosShare TreeShare) :
    arg m c q ⊢ owns (c : Thread nD τ) (xO c k) q (valB m c k) ∗ (owns (c : Thread nD τ) (xO c k) q (valB m c k) -∗ arg m c q) :=
  lend (xO c k) q (m ((c : Thread nD τ).loc main_arg0))

abbrev idleA (s : Fin 2) : sProp 𝕄 := idle m c aB aS s
abbrev idleB (s : Fin 2) : sProp 𝕄 := idle m c bB bS s
abbrev inA (n : ℕ) : sProp 𝕄 := staged m c aB aS (xA c) (valA m c) n
abbrev inB (n : ℕ) : sProp 𝕄 := staged m c bB bS (xO c) (valB m c) n

/-! ## The first phase -/

variable (K : Dev nD × CellIx → ℕ)

section Steps

variable {r : PR (F := F)}

/-- The staged block is cast into the send buffer. -/
theorem castA_step {Q : PUnit.{1} → sProp 𝕄} (k : Fin 16) :
    iprop(owns (c : Thread nD τ) (slotM aB (par k)) fullShare (valA m c k) ∗ anyAt c (rows sB k))
      ⊢ iprop((owns (c : Thread nD τ) (slotM aB (par k)) fullShare (valA m c k)
            ∗ owns (c : Thread nD τ) (rows sB k) fullShare (sent m c k) -∗ Wp c r Q)
          -∗ Wp c (castA k r) Q) := by
  unfold castA
  iintro ⟨Ha, Hs⟩ Hk
  iapply (load_slot aB (par k)) $$ Ha
  iintro %v %hv Ha
  ihave Hs := (owns_of_any (rows sB k)) $$ Hs
  icases Hs with ⟨%Y, Hs⟩
  iapply (load_rows sB k) $$ Hs
  iintro Hs
  ihave Hs := (any_of_owns (rows sB k) Y) $$ Hs
  iapply (store_rows sB k) $$ Hs
  have h : narrow v = sent m c k := by unfold narrow sent narrowed; rw [hv]
  rw [h]
  iintro Hs
  iapply Hk
  isplitl [Ha]; · iexact Ha
  iexact Hs

/-- The first phase's work on block `k` up to the send. -/
theorem stageK_step {Q : PUnit.{1} → sProp 𝕄} (k : Fin 16) (n : ℕ) :
    iprop(ctx m K ∗ inA m c k.val ∗ idleA m c (pr (k.val + 1)) ∗ anyAt c (rows sB k) ∗ owing c (owedFrom n c))
      ⊢ iprop((inA m c (k.val + 1) ∗ idleA m c (pr (k.val + 2)) ∗ owns (c : Thread nD τ) (rows sB k) fullShare (sent m c k)
            ∗ owing c (owedFrom n c) -∗ Wp c r Q)
          -∗ Wp c (stageK c k r) Q) := by
  unfold stageK waitA ctx
  rw [inA, staged_lt, pr_two]
  iintro ⟨⟨-, #HL⟩, Hb, Hi, Hs, HO⟩ Hk
  iapply (stage_wait k (owedFrom n c)) $$ [Hb HO]
  · isplitl [Hb]; · iexact Hb
    isplitl [HO]; · iexact HO
    iapply (mayWait_low c n (.dma (aS (par k))) (lv_aS c _)); iexact HL
  iintro ⟨Ha, Hv, Hx, HO⟩
  by_cases h : k.val + 1 < 16
  · rw [dif_pos h]
    unfold startA
    iapply (stage_start (m := m) (X := valA m c) (⟨k.val + 1, h⟩ : Fin 16) (lendA m c _)) $$ Hi
    iintro Hn
    iapply (castA_step m c k) $$ [Ha Hs]
    · isplitl [Ha]; · iexact Ha
      iexact Hs
    iintro ⟨Ha, Hs⟩
    ihave Ha := (any_of_owns (slotM aB (par k)) _) $$ Ha
    iapply Hk
    isplitl [Hn]; · rw [show inA m c (k.val + 1) = _ from staged_lt m c aB aS (xA c) (valA m c) ⟨k.val + 1, h⟩]; iexact Hn
    isplitl [Ha Hv Hx]
    · unfold idleA idle
      isplitl [Ha]; · iexact Ha
      isplitl [Hv]; · iexact Hv
      iexact Hx
    isplitl [Hs]; · iexact Hs
    iexact HO
  · rw [dif_neg h]
    iapply (castA_step m c k) $$ [Ha Hs]
    · isplitl [Ha]; · iexact Ha
      iexact Hs
    iintro ⟨Ha, Hs⟩
    ihave Ha := (any_of_owns (slotM aB (par k)) _) $$ Ha
    iapply Hk
    isplitl [Hi]; · rw [show inA m c (k.val + 1) = _ from staged_ge m c aB aS (xA c) (valA m c) (k.val + 1) h]; iexact Hi
    isplitl [Ha Hv Hx]
    · unfold idleA idle
      isplitl [Ha]; · iexact Ha
      isplitl [Hv]; · iexact Hv
      iexact Hx
    isplitl [Hs]; · iexact Hs
    iexact HO

/-- What sending block `k` uses up: its place in the peer's receive buffer and the two payments. -/
def room (k : Fin 16) : sProp 𝕄 :=
  iprop(anyAt (peer c) (rows rB k) ∗ dutyTok ER (sendCell c k) 0 () ∗ dutyTok ER (recvCell (peer c) k) 0 ())

/-- Before block `n` of the first phase: it is staged, the blocks from it on may be sent, those before are out. -/
def stateA (n : ℕ) : sProp 𝕄 :=
  iprop(ctx m K ∗ inA m c n ∗ idleA m c (pr (n + 1)) ∗ owing c (owedFrom n c)
    ∗ bigSep (from' n) (fun k => anyAt (F := F) c (rows sB k)) ∗ bigSep (from' n) (fun k => room c k)
    ∗ bigSep (upto n) (fun k => (cred (tallyAt (sendCell c k) () N) : sProp 𝕄)))

theorem stepA_step {Q : PUnit.{1} → sProp 𝕄} (k : Fin 16) :
    stateA m c K k.val ⊢ iprop((stateA m c K (k.val + 1) -∗ Wp c r Q) -∗ Wp c (stepA c k r) Q) := by
  unfold stateA stepA
  rw [from_pop _ k.val k.isLt, from_pop (fun k => room c k) k.val k.isLt, upto_push _ k.val k.isLt]
  iintro ⟨#HC, Hb, Hi, HO, ⟨Hs, Hss⟩, ⟨Hr, Hrs⟩, Hc⟩ Hk
  iapply (stageK_step m c K k k.val) $$ [Hb Hi Hs HO]
  · isplitr; · iexact HC
    isplitl [Hb]; · iexact Hb
    isplitl [Hi]; · iexact Hi
    isplitl [Hs]; · iexact Hs
    iexact HO
  iintro ⟨Hb, Hi, Hs, HO⟩
  unfold room
  icases Hr with ⟨Hr, Ht₁, Ht₂⟩
  iapply (send_step m K c k) $$ [HO Hs Hr Ht₁ Ht₂]
  · isplitr; · iexact HC
    isplitl [HO]; · iexact HO
    isplitl [Hs]; · iexact Hs
    isplitl [Hr]; · iexact Hr
    isplitl [Ht₁]; · iexact Ht₁
    iexact Ht₂
  iintro ⟨Hn, HO⟩
  iapply Hk
  isplitr; · iexact HC
  isplitl [Hb]; · iexact Hb
  isplitl [Hi]; · iexact Hi
  isplitl [HO]; · iexact HO
  isplitl [Hss]; · iexact Hss
  isplitl [Hrs]; · iexact Hrs
  isplitl [Hn]; · iexact Hn
  iexact Hc

/-! ## The second phase -/

/-- The sum of block `i` is on its way into the result. -/
def leaving (i : Fin 16) : sProp 𝕄 :=
  Flight EC (c : Thread nD τ) (.dma (oS i)) () (rows oB i).view.dmaCredit
    iprop(owns (c : Thread nD τ) (rows oB i) fullShare (outVal m c i) ∗ owns (c : Thread nD τ) (slotM gB (par i)) fullShare (outVal m c i))

/-- Block `n - 2` is leaving its slot, or the slot is free when there is no such block. -/
def outs (n : ℕ) : sProp 𝕄 :=
  if h : 2 ≤ n ∧ n < 18 then leaving m c ⟨n - 2, by omega⟩ else anyAt c (slotM gB (pr n))

theorem outs_two (i : Fin 16) : outs m c (i.val + 2) = leaving m c i :=
  dif_pos ⟨by omega, by omega⟩
theorem outs_lt (n : ℕ) (h : n < 2) : outs m c n = anyAt c (slotM gB (pr n)) := dif_neg (by omega)

/-- Block `k` of the result is still to be written; -/
def blank (k : Fin 16) : sProp 𝕄 := iprop(anyAt c (rows oB k) ∗ semVal ((c : Thread nD τ), .dma (oS k)) 0)
/-- it is written; -/
def written (k : Fin 16) : sProp 𝕄 :=
  iprop(owns (c : Thread nD τ) (rows oB k) fullShare (outVal m c k) ∗ semVal ((c : Thread nD τ), .dma (oS k)) 0)
/-- the peer's block `k` is awaited; -/
def awaited (k : Fin 16) : sProp 𝕄 := iprop(cred (tallyAt (recvCell c k) () N) ∗ atPos ER (recvCell c k) 0 ∅ 0)
/-- it has been used. -/
def used (k : Fin 16) : sProp 𝕄 := iprop(anyAt c (rows rB k) ∗ semVal (recvCell c k) 0)

theorem mayWait_none (sm : SemLoc sig) : (BI.emp : sProp 𝕄) ⊢ MayWait (c : Thread nD τ) sm () 0 := by
  rw [MayWait_zero]

/-- The wait for block `i` of the result to be written frees its slot. -/
theorem waitO_step {Q : PUnit.{1} → sProp 𝕄} (i : Fin 16) :
    iprop(leaving m c i ∗ owing c 0)
      ⊢ iprop((written m c i ∗ anyAt c (slotM gB (par i)) ∗ owing c 0 -∗ Wp c r Q) -∗ Wp c (waitO i r) Q) := by
  unfold leaving waitO written
  iintro ⟨Hf, HO⟩ Hk
  iapply (copy_wait (oS i) (slotM gB (par i)) (rows oB i)) $$ [Hf HO]
  · isplitl [Hf]; · iexact Hf
    isplitl [HO]; · iexact HO
    iapply (mayWait_none c (.dma (oS i))); iempintro
  iintro ⟨⟨Ho, Hg⟩, Hv, HO⟩
  ihave Hg := (any_of_owns (slotM gB (par i)) _) $$ Hg
  iapply Hk
  isplitl [Ho Hv]
  · isplitl [Ho]; · iexact Ho
    iexact Hv
  isplitl [Hg]; · iexact Hg
  iexact HO

/-- The received and the own block are added into the accumulator's slot. -/
theorem addK_step {Q : PUnit.{1} → sProp 𝕄} (k : Fin 16) :
    iprop(owns (c : Thread nD τ) (rows rB k) fullShare (sent m (peer c) k)
        ∗ owns (c : Thread nD τ) (slotM bB (par k)) fullShare (valB m c k) ∗ anyAt c (slotM gB (par k)))
      ⊢ iprop((anyAt c (rows rB k) ∗ anyAt c (slotM bB (par k))
            ∗ owns (c : Thread nD τ) (slotM gB (par k)) fullShare (outVal m c k) -∗ Wp c r Q)
          -∗ Wp c (addK k r) Q) := by
  unfold addK
  iintro ⟨Hr, Hb, Hg⟩ Hk
  iapply (load_rows rB k) $$ Hr
  iintro Hr
  iapply (load_slot bB (par k)) $$ Hb
  iintro %v %hv Hb
  ihave Hg := (owns_of_any (slotM gB (par k))) $$ Hg
  icases Hg with ⟨%Y, Hg⟩
  iapply (load_slot gB (par k)) $$ Hg
  iintro %u %hu Hg
  ihave Hg := (any_of_owns (slotM gB (par k)) Y) $$ Hg
  iapply (store_slot gB (par k)) $$ Hg
  have h : shapeCast S512x1024 (total (sent m (peer c) k) v) shapeCasts_S1x512x1024_S512x1024 = outVal m c k := by
    unfold total outVal
    rw [shapeCast_shapeCast, hv]
  rw [h]
  iintro Hg
  ihave Hr := (any_of_owns (rows rB k) _) $$ Hr
  ihave Hb := (any_of_owns (slotM bB (par k)) _) $$ Hb
  iapply Hk
  isplitl [Hr]; · iexact Hr
  isplitl [Hb]; · iexact Hb
  iexact Hg

/-- The copy of the sum into the result starts. -/
theorem startO_step {Q : PUnit.{1} → sProp 𝕄} (k : Fin 16) :
    iprop(owns (c : Thread nD τ) (slotM gB (par k)) fullShare (outVal m c k) ∗ blank c k)
      ⊢ iprop((leaving m c k -∗ Wp c r Q) -∗ Wp c (startO k r) Q) := by
  unfold startO blank leaving
  iintro ⟨Hg, Ho, Hv⟩ Hk
  iapply (copy_start (slotM gB (par k)) (rows oB k) (oS k) fullShare (outVal m c k) (by decide)) $$ [Hg Ho Hv]
  · isplitl [Hg]; · iexact Hg
    isplitl [Ho]; · iexact Ho
    iexact Hv
  iintro Hf
  iapply Hk
  iexact Hf

/-- The rest of a second-phase step, the blocks received and staged and the accumulator's slot free. -/
theorem finish_step {Q : PUnit.{1} → sProp 𝕄} (k : Fin 16) :
    iprop(owns (c : Thread nD τ) (rows rB k) fullShare (sent m (peer c) k)
        ∗ owns (c : Thread nD τ) (slotM bB (par k)) fullShare (valB m c k) ∗ anyAt c (slotM gB (par k))
        ∗ semVal ((c : Thread nD τ), .dma (bS (par k))) 0 ∗ arg m c (part (par k)) ∗ blank c k)
      ⊢ iprop((anyAt c (rows rB k) ∗ inB m c (k.val + 2) ∗ outs m c (k.val + 2) -∗ Wp c r Q)
          -∗ Wp c (addK k (startO k (if h : k.val + 2 < 16 then startB c ⟨k.val + 2, h⟩ r else r))) Q) := by
  rw [outs_two]
  iintro ⟨Hr, Hb, Hg, Hv, Hx, Ho⟩ Hk
  iapply (addK_step m c k) $$ [Hr Hb Hg]
  · isplitl [Hr]; · iexact Hr
    isplitl [Hb]; · iexact Hb
    iexact Hg
  iintro ⟨Hr, Hb, Hg⟩
  iapply (startO_step m c k) $$ [Hg Ho]
  · isplitl [Hg]; · iexact Hg
    iexact Ho
  iintro Hl
  have hp : pr (k.val + 2) = par k := pr_two k.val
  by_cases h : k.val + 2 < 16
  · rw [dif_pos h]
    unfold startB
    iapply (stage_start (m := m) (X := valB m c) (⟨k.val + 2, h⟩ : Fin 16) (lendB m c _)) $$ [Hb Hv Hx]
    · rw [show par (⟨k.val + 2, h⟩ : Fin 16) = par k from hp]
      unfold idle
      isplitl [Hb]; · iexact Hb
      isplitl [Hv]; · iexact Hv
      iexact Hx
    iintro Hn
    iapply Hk
    isplitl [Hr]; · iexact Hr
    isplitl [Hn]; · rw [show inB m c (k.val + 2) = _ from staged_lt m c bB bS (xO c) (valB m c) ⟨k.val + 2, h⟩]; iexact Hn
    iexact Hl
  · rw [dif_neg h]
    iapply Hk
    isplitl [Hr]; · iexact Hr
    isplitl [Hb Hv Hx]
    · rw [show inB m c (k.val + 2) = _ from staged_ge m c bB bS (xO c) (valB m c) (k.val + 2) h, hp]
      unfold idle
      isplitl [Hb]; · iexact Hb
      isplitl [Hv]; · iexact Hv
      iexact Hx
    iexact Hl

/-- Before block `n` of the second phase: it and the next are staged, the two before are leaving. -/
def stateB (n : ℕ) : sProp 𝕄 :=
  iprop(ctx m K ∗ (inB m c n ∗ inB m c (n + 1)) ∗ (outs m c n ∗ outs m c (n + 1)) ∗ owing c 0
    ∗ bigSep (from' n) (fun k => blank (F := F) c k) ∗ bigSep (upto (n - 2)) (fun k => written m c k)
    ∗ bigSep (from' n) (fun k => awaited (F := F) c k) ∗ bigSep (upto n) (fun k => used (F := F) c k))

theorem stepB_step {Q : PUnit.{1} → sProp 𝕄} (k : Fin 16) :
    stateB m c K k.val ⊢ iprop((stateB m c K (k.val + 1) -∗ Wp c r Q) -∗ Wp c (stepB c k r) Q) := by
  unfold stateB stepB waitB
  rw [from_pop (fun k => blank (F := F) c k) k.val k.isLt, from_pop (fun k => awaited (F := F) c k) k.val k.isLt,
    upto_push (fun k => used (F := F) c k) k.val k.isLt,
    show inB m c k.val = busy m c bB bS (xO c) (valB m c) k from staged_lt m c bB bS (xO c) (valB m c) k]
  iintro ⟨#HC, ⟨Hb, Hb'⟩, ⟨Hg, Hg'⟩, HO, ⟨Ho, Hos⟩, Hw, ⟨Ha, Has⟩, Hu⟩ Hk
  iapply (stage_wait k 0) $$ [Hb HO]
  · isplitl [Hb]; · iexact Hb
    isplitl [HO]; · iexact HO
    iapply (mayWait_none c (.dma (bS (par k)))); iempintro
  iintro ⟨Hb, Hv, Hx, HO⟩
  unfold awaited
  icases Ha with ⟨Ha, Hp⟩
  iapply (waitR_step m K c k) $$ [HO Ha Hp]
  · isplitr; · iexact HC
    isplitl [HO]; · iexact HO
    isplitl [Ha]; · iexact Ha
    iexact Hp
  iintro ⟨Hr, Hz, HO⟩
  dsimp only
  by_cases h : 2 ≤ k.val
  · rw [dif_pos h]
    ihave Hg := (show outs m c k.val ⊢ leaving m c ⟨k.val - 2, by omega⟩ from by
      rw [show outs m c k.val = leaving m c ⟨k.val - 2, by omega⟩ from dif_pos ⟨h, by omega⟩]) $$ Hg
    iapply (waitO_step m c (⟨k.val - 2, _⟩ : Fin 16)) $$ [Hg HO]
    · isplitl [Hg]; · iexact Hg
      iexact HO
    iintro ⟨Hn, Hg, HO⟩
    iapply (finish_step m c k) $$ [Hr Hb Hg Hv Hx Ho]
    · isplitl [Hr]; · iexact Hr
      isplitl [Hb]; · iexact Hb
      isplitl [Hg]
      · rw [show par (⟨k.val - 2, by omega⟩ : Fin 16) = par k from Fin.ext (by show (k.val - 2) % 2 = k.val % 2; omega)]
        iexact Hg
      isplitl [Hv]; · iexact Hv
      isplitl [Hx]; · iexact Hx
      iexact Ho
    iintro ⟨Hr, Hi, Hl⟩
    iapply Hk
    isplitr; · iexact HC
    isplitl [Hb' Hi]
    · isplitl [Hb']; · iexact Hb'
      iexact Hi
    isplitl [Hg' Hl]
    · isplitl [Hg']; · iexact Hg'
      iexact Hl
    isplitl [HO]; · iexact HO
    isplitl [Hos]; · iexact Hos
    isplitl [Hw Hn]
    · rw [show k.val + 1 - 2 = (k.val - 2) + 1 by omega, upto_push _ (k.val - 2) (by omega)]
      isplitl [Hn]; · iexact Hn
      iexact Hw
    isplitl [Has]; · iexact Has
    isplitl [Hr Hz]
    · unfold used
      isplitl [Hr]; · iexact Hr
      iexact Hz
    iexact Hu
  · rw [dif_neg h]
    ihave Hg := (show outs m c k.val ⊢ anyAt c (slotM gB (par k)) from by rw [outs_lt m c k.val (by omega)]) $$ Hg
    iapply (finish_step m c k) $$ [Hr Hb Hg Hv Hx Ho]
    · isplitl [Hr]; · iexact Hr
      isplitl [Hb]; · iexact Hb
      isplitl [Hg]; · iexact Hg
      isplitl [Hv]; · iexact Hv
      isplitl [Hx]; · iexact Hx
      iexact Ho
    iintro ⟨Hr, Hi, Hl⟩
    iapply Hk
    isplitr; · iexact HC
    isplitl [Hb' Hi]
    · isplitl [Hb']; · iexact Hb'
      iexact Hi
    isplitl [Hg' Hl]
    · isplitl [Hg']; · iexact Hg'
      iexact Hl
    isplitl [HO]; · iexact HO
    isplitl [Hos]; · iexact Hos
    isplitl [Hw]; · rw [show k.val + 1 - 2 = k.val - 2 by omega]; iexact Hw
    isplitl [Has]; · iexact Has
    isplitl [Hr Hz]
    · unfold used
      isplitl [Hr]; · iexact Hr
      iexact Hz
    iexact Hu

/-! ## The end -/

/-- Before the wait for the send of block `n`. -/
def stateS (n : ℕ) : sProp 𝕄 :=
  iprop(ctx m K ∗ owing c 0
    ∗ bigSep (from' n) (fun k => (iprop(cred (tallyAt (sendCell c k) () N) ∗ atPos ER (sendCell c k) 0 ∅ 0) : sProp 𝕄))
    ∗ bigSep (upto n) (fun k => (iprop(anyAt c (rows sB k) ∗ semVal (sendCell c k) 0) : sProp 𝕄)))

theorem waitS_loop {Q : PUnit.{1} → sProp 𝕄} (k : Fin 16) :
    stateS m c K k.val ⊢ iprop((stateS m c K (k.val + 1) -∗ Wp c r Q) -∗ Wp c (waitS k r) Q) := by
  unfold stateS
  rw [from_pop _ k.val k.isLt, upto_push _ k.val k.isLt]
  iintro ⟨#HC, HO, ⟨⟨Hc, Hp⟩, Hs⟩, Hd⟩ Hk
  iapply (waitS_step m K c k) $$ [HO Hc Hp]
  · isplitr; · iexact HC
    isplitl [HO]; · iexact HO
    isplitl [Hc]; · iexact Hc
    iexact Hp
  iintro ⟨Hn, Hz, HO⟩
  iapply Hk
  isplitr; · iexact HC
  isplitl [HO]; · iexact HO
  isplitl [Hs]; · iexact Hs
  isplitl [Hn Hz]
  · isplitl [Hn]; · iexact Hn
    iexact Hz
  iexact Hd

/-- A loop whose every step takes one state to the next takes the first to the last. -/
theorem loop_step {Q : PUnit.{1} → sProp 𝕄} (f : Fin 16 → PR (F := F) → PR (F := F)) (I : ℕ → sProp 𝕄)
    (step : ∀ (k : Fin 16) (r : PR (F := F)), I k.val ⊢ iprop((I (k.val + 1) -∗ Wp c r Q) -∗ Wp c (f k r) Q)) :
    ∀ (n lo hi : ℕ) (e : lo + n = hi) (h : lo + n ≤ 16) (r : PR (F := F)),
      I lo ⊢ iprop((I hi -∗ Wp c r Q) -∗ Wp c (loop f n lo h r) Q)
  | 0, lo, _, rfl, h, r => by
    iintro HI Hk
    iapply Hk; iexact HI
  | n + 1, lo, hi, e, h, r => by
    have ih := loop_step f I step n (lo + 1) hi (by omega) (by omega) r
    iintro HI Hk
    iapply (step ⟨lo, by omega⟩ (loop f n (lo + 1) (by omega) r)) $$ HI
    iintro HI
    iapply ih $$ HI
    iexact Hk

end Steps

/-! ## The whole body -/

/-- What device `c`'s run starts from. -/
def before : sProp 𝕄 :=
  iprop(ctx m K ∗ owing c (O₀ c)
    ∗ (dutyTok ER (barCell (peer c)) 0 () ∗ cred (tallyAt (barCell c) () 1) ∗ atPos ER (barCell c) 0 ∅ 0)
    ∗ (bigSep Finset.univ fun k => (iprop(dutyTok ER (sendCell c k) 0 () ∗ dutyTok ER (recvCell (peer c) k) 0 ()) : sProp 𝕄))
    ∗ (bigSep Finset.univ fun k => (atPos ER (sendCell c k) 0 ∅ 0 : sProp 𝕄))
    ∗ (bigSep Finset.univ fun k => awaited (F := F) c k)
    ∗ (idleA m c 0 ∗ idleA m c 1)
    ∗ (anyAt c (slotM bB 0) ∗ anyAt c (slotM bB 1)
      ∗ semVal ((c : Thread nD τ), .dma (bS 0)) 0 ∗ semVal ((c : Thread nD τ), .dma (bS 1)) 0)
    ∗ (anyAt c (slotM gB 0) ∗ anyAt c (slotM gB 1))
    ∗ (bigSep Finset.univ fun k => anyAt (F := F) c (rows sB k)) ∗ (bigSep Finset.univ fun k => anyAt (F := F) c (rows rB k))
    ∗ bigSep Finset.univ fun k => blank (F := F) c k)

/-- What it ends with. -/
def after : sProp 𝕄 :=
  iprop(owing c 0 ∗ semVal (barCell c) 0
    ∗ (anyAt c (slotM aB 0) ∗ anyAt c (slotM aB 1)
      ∗ semVal ((c : Thread nD τ), .dma (aS 0)) 0 ∗ semVal ((c : Thread nD τ), .dma (aS 1)) 0)
    ∗ (idleB m c 0 ∗ idleB m c 1)
    ∗ (anyAt c (slotM gB 0) ∗ anyAt c (slotM gB 1))
    ∗ (bigSep Finset.univ fun k => (iprop(anyAt c (rows sB k) ∗ semVal (sendCell c k) 0) : sProp 𝕄))
    ∗ (bigSep Finset.univ fun k => used (F := F) c k) ∗ bigSep Finset.univ fun k => written m c k)

theorem sep_join (A B : Fin 16 → sProp 𝕄) :
    iprop(bigSep Finset.univ A ∗ bigSep Finset.univ B) ⊢ bigSep Finset.univ fun k => iprop(A k ∗ B k) := by
  rw [show (bigSep Finset.univ fun k => iprop(A k ∗ B k)) = iprop(bigSep Finset.univ A ∗ bigSep Finset.univ B) from
    bigSep_sep Finset.univ A B]

theorem univ_pop (P : Fin 16 → sProp 𝕄) : bigSep Finset.univ P ⊢ iprop(P 0 ∗ bigSep (from' 1) P) := by
  rw [← from_zero, from_pop P 0 (by decide)]; exact BIBase.Entails.rfl

theorem startA_first {r : PR (F := F)} {Q : PUnit.{1} → sProp 𝕄} :
    idleA m c 0 ⊢ iprop((inA m c 0 -∗ Wp c r Q) -∗ Wp c (startA c 0 r) Q) :=
  stage_start (m := m) (X := valA m c) (0 : Fin 16) (lendA m c 0)

theorem startB_first {r : PR (F := F)} {Q : PUnit.{1} → sProp 𝕄} (i : Fin 16) (s : Fin 2) (h : s = par i) :
    idleB m c s ⊢ iprop((inB m c i.val -∗ Wp c r Q) -∗ Wp c (startB c i r) Q) := by
  rw [show inB m c i.val = _ from staged_lt m c bB bS (xO c) (valB m c) i, h]
  exact stage_start (m := m) (X := valB m c) i (lendB m c i)

/-- The first phase, up to the barrier and from it on. -/
theorem phaseA {r : PR (F := F)} {Q : PUnit.{1} → sProp 𝕄} :
    iprop(ctx m K ∗ owing c (O₀ c)
      ∗ (dutyTok ER (barCell (peer c)) 0 () ∗ cred (tallyAt (barCell c) () 1) ∗ atPos ER (barCell c) 0 ∅ 0)
      ∗ (bigSep Finset.univ fun k => (iprop(dutyTok ER (sendCell c k) 0 () ∗ dutyTok ER (recvCell (peer c) k) 0 ()) : sProp 𝕄))
      ∗ (idleA m c 0 ∗ idleA m c 1)
      ∗ (bigSep Finset.univ fun k => anyAt (F := F) c (rows sB k)) ∗ (bigSep Finset.univ fun k => anyAt (F := F) c (rows rB k)))
      ⊢ iprop((stateA m c K 16 ∗ semVal (barCell c) 0 -∗ Wp c r Q)
        -∗ Wp c (.op (.semSignal (Dev.tc (⟨k0_dev1 c, k0_dev1_lt c⟩ : Dev nD)) barS 1) fun _ =>
          startA c 0 <| stageK c 0 <| .op (.semWait barS 1) fun _ =>
          sendK c 0 <| loop (stepA c) 15 1 (by decide) r) Q) := by
  iintro ⟨#HC, HO, ⟨Ht, Hc, Hp⟩, Htoks, ⟨Ha0, Ha1⟩, Hss, Hrs⟩ Hk
  iapply (signal_step m K c) $$ [HO Ht Hrs]
  · isplitr; · iexact HC
    isplitl [HO]; · iexact HO
    isplitl [Ht]; · iexact Ht
    iexact Hrs
  iintro HO
  iapply (startA_first m c) $$ Ha0
  iintro Hin
  ihave Hss := (univ_pop fun k => anyAt (F := F) c (rows sB k)) $$ Hss
  icases Hss with ⟨Hs, Hss⟩
  iapply (stageK_step m c K 0 0) $$ [Hin Ha1 Hs HO]
  · isplitr; · iexact HC
    isplitl [Hin]; · iexact Hin
    isplitl [Ha1]; · iexact Ha1
    isplitl [Hs]; · iexact Hs
    iexact HO
  iintro ⟨Hin, Hi, Hs, HO⟩
  iapply (barrier_step m K c) $$ [HO Hc Hp]
  · isplitr; · iexact HC
    isplitl [HO]; · iexact HO
    isplitl [Hc]; · iexact Hc
    iexact Hp
  iintro ⟨Hpeer, Hz, HO⟩
  ihave Hroom := (show (iprop((bigSep Finset.univ fun k => anyAt (F := F) (peer c) (rows rB k))
      ∗ bigSep Finset.univ fun k => (iprop(dutyTok ER (sendCell c k) 0 () ∗ dutyTok ER (recvCell (peer c) k) 0 ()) : sProp 𝕄)) : sProp 𝕄)
      ⊢ room (F := F) c 0 ∗ bigSep (from' 1) (fun k => room (F := F) c k) from by
        refine BIBase.Entails.trans ?_ (univ_pop fun k => room (F := F) c k)
        unfold room; exact sep_join _ _) $$ [Hpeer Htoks]
  · isplitl [Hpeer]; · iexact Hpeer
    iexact Htoks
  icases Hroom with ⟨Hr, Hrooms⟩
  unfold room
  icases Hr with ⟨Hr, Ht₁, Ht₂⟩
  iapply (send_step m K c 0) $$ [HO Hs Hr Ht₁ Ht₂]
  · isplitr; · iexact HC
    isplitl [HO]; · iexact HO
    isplitl [Hs]; · iexact Hs
    isplitl [Hr]; · iexact Hr
    isplitl [Ht₁]; · iexact Ht₁
    iexact Ht₂
  iintro ⟨Hn, HO⟩
  iapply (loop_step c (stepA c) (stateA m c K) (fun k r => stepA_step m c K k) 15 1 16 rfl _ r) $$ [Hin Hi HO Hss Hrooms Hn]
  · unfold stateA
    isplitr; · iexact HC
    isplitl [Hin]; · iexact Hin
    isplitl [Hi]; · iexact Hi
    isplitl [HO]; · iexact HO
    isplitl [Hss]; · iexact Hss
    isplitl [Hrooms]; · unfold room; iexact Hrooms
    rw [upto_push _ 0 (by decide)]
    isplitl [Hn]; · iexact Hn
    rw [upto_zero, bigSep_empty]; iempintro
  iintro HA
  iapply Hk
  isplitl [HA]; · iexact HA
  iexact Hz

/-- The second phase. -/
theorem phaseB {r : PR (F := F)} {Q : PUnit.{1} → sProp 𝕄} :
    iprop(ctx m K ∗ owing c 0 ∗ (idleB m c 0 ∗ idleB m c 1) ∗ (anyAt c (slotM gB 0) ∗ anyAt c (slotM gB 1))
      ∗ (bigSep Finset.univ fun k => blank (F := F) c k) ∗ bigSep Finset.univ fun k => awaited (F := F) c k)
      ⊢ iprop((owing c 0 ∗ (idleB m c 0 ∗ idleB m c 1) ∗ (anyAt c (slotM gB 0) ∗ anyAt c (slotM gB 1))
          ∗ (bigSep Finset.univ fun k => written m c k) ∗ (bigSep Finset.univ fun k => used (F := F) c k) -∗ Wp c r Q)
        -∗ Wp c (startB c 0 <| startB c 1 <| loop (stepB c) 16 0 (by decide) <| waitO 14 <| waitO 15 r) Q) := by
  iintro ⟨#HC, HO, ⟨Hi0, Hi1⟩, ⟨Hg0, Hg1⟩, Hbl, Haw⟩ Hk
  iapply (startB_first m c 0 0 rfl) $$ Hi0
  iintro Hi0
  iapply (startB_first m c 1 1 rfl) $$ Hi1
  iintro Hi1
  iapply (loop_step c (stepB c) (stateB m c K) (fun k r => stepB_step m c K k) 16 0 16 rfl _ (waitO 14 <| waitO 15 r))
    $$ [HO Hi0 Hi1 Hg0 Hg1 Hbl Haw]
  · unfold stateB
    rw [from_zero, upto_zero, bigSep_empty, bigSep_empty, outs_lt m c 0 (by decide), outs_lt m c (0 + 1) (by decide)]
    isplitr; · iexact HC
    isplitl [Hi0 Hi1]
    · isplitl [Hi0]; · iexact Hi0
      iexact Hi1
    isplitl [Hg0 Hg1]
    · isplitl [Hg0]; · iexact Hg0
      iexact Hg1
    isplitl [HO]; · iexact HO
    isplitl [Hbl]; · iexact Hbl
    isplitr; · iempintro
    isplitl [Haw]; · iexact Haw
    iempintro
  unfold stateB
  rw [show outs m c 16 = leaving m c 14 from outs_two m c 14, show outs m c (16 + 1) = leaving m c 15 from outs_two m c 15,
    show inB m c 16 = idleB m c 0 from staged_ge m c bB bS (xO c) (valB m c) 16 (by decide),
    show inB m c (16 + 1) = idleB m c 1 from staged_ge m c bB bS (xO c) (valB m c) 17 (by decide)]
  iintro ⟨-, ⟨Hi0, Hi1⟩, ⟨Hl0, Hl1⟩, HO, -, Hw, -, Hu⟩
  iapply (waitO_step m c 14) $$ [Hl0 HO]
  · isplitl [Hl0]; · iexact Hl0
    iexact HO
  iintro ⟨Hw0, Hg0, HO⟩
  iapply (waitO_step m c 15) $$ [Hl1 HO]
  · isplitl [Hl1]; · iexact Hl1
    iexact HO
  iintro ⟨Hw1, Hg1, HO⟩
  iapply Hk
  isplitl [HO]; · iexact HO
  isplitl [Hi0 Hi1]
  · isplitl [Hi0]; · iexact Hi0
    iexact Hi1
  isplitl [Hg0 Hg1]
  · isplitl [Hg0]; · iexact Hg0
    iexact Hg1
  isplitl [Hw Hw0 Hw1]
  · rw [← upto_end, upto_push (fun k => written m c k) 15 (by decide), upto_push (fun k => written m c k) 14 (by decide)]
    isplitl [Hw1]; · iexact Hw1
    isplitl [Hw0]; · iexact Hw0
    iexact Hw
  rw [← upto_end]
  iexact Hu

/-- A device that asks which it is learns that. -/
theorem deviceId_step {Q : PUnit.{1} → sProp 𝕄} (k : Dev nD → PR (F := F)) : Wp c (.op .deviceId k) Q = Wp c (k c) Q :=
  wp_deviceId 𝒱₀ (c : Thread nD τ) none Set.univ

/-- Device `c`'s run of the body, from `before` to `after`. -/
theorem sound_body {Q : PUnit.{1} → sProp 𝕄} :
    before m c K ⊢ iprop((after m c -∗ Q ⟨⟩) -∗ Wp c body Q) := by
  unfold before body
  rw [deviceId_step]
  iintro ⟨#HC, HO, Hbar, Htoks, Hsp, Haw, HA, ⟨Hb0, Hb1, Hv0, Hv1⟩, Hg, Hss, Hrs, Hbl⟩ Hk
  unfold bodyOn
  iapply (phaseA m c K) $$ [HO Hbar Htoks HA Hss Hrs]
  · isplitr; · iexact HC
    isplitl [HO]; · iexact HO
    isplitl [Hbar]; · iexact Hbar
    isplitl [Htoks]; · iexact Htoks
    isplitl [HA]; · iexact HA
    isplitl [Hss]; · iexact Hss
    iexact Hrs
  unfold stateA
  rw [show inA m c 16 = idleA m c 0 from staged_ge m c aB aS (xA c) (valA m c) 16 (by decide), owedFrom_end,
    show idleA m c (pr (16 + 1)) = idleA m c 1 from rfl, upto_end]
  iintro ⟨⟨-, HA0, HA1, HO, -, -, Hcs⟩, Hz⟩
  ihave HA0 := (idle_open m c aB aS 0) $$ HA0
  ihave HA1 := (idle_open m c aB aS 1) $$ HA1
  icases HA0 with ⟨Ha0, Hva0, Hx0⟩
  icases HA1 with ⟨Ha1, Hva1, Hx1⟩
  iapply (phaseB m c K) $$ [HO Hb0 Hb1 Hv0 Hv1 Hx0 Hx1 Hg Hbl Haw]
  · isplitr; · iexact HC
    isplitl [HO]; · iexact HO
    isplitl [Hb0 Hb1 Hv0 Hv1 Hx0 Hx1]
    · unfold idleB idle
      isplitl [Hb0 Hv0 Hx0]
      · isplitl [Hb0]; · iexact Hb0
        isplitl [Hv0]; · iexact Hv0
        iexact Hx0
      · isplitl [Hb1]; · iexact Hb1
        isplitl [Hv1]; · iexact Hv1
        iexact Hx1
    isplitl [Hg]; · iexact Hg
    isplitl [Hbl]; · iexact Hbl
    iexact Haw
  iintro ⟨HO, HB, Hg, Hw, Hu⟩
  iapply (loop_step c waitS (stateS m c K) (fun k r => waitS_loop m c K k) 16 0 16 rfl _ (.ret ⟨⟩)) $$ [HO Hcs Hsp]
  · unfold stateS
    rw [from_zero, upto_zero, bigSep_empty]
    isplitr; · iexact HC
    isplitl [HO]; · iexact HO
    isplitl [Hcs Hsp]
    · iapply (sep_join (fun k => (cred (tallyAt (sendCell c k) () N) : sProp 𝕄)) fun k => (atPos ER (sendCell c k) 0 ∅ 0 : sProp 𝕄))
      isplitl [Hcs]; · iexact Hcs
      iexact Hsp
    iempintro
  unfold stateS
  rw [upto_end]
  iintro ⟨-, HO, -, Hs⟩
  unfold Wp
  rw [wp_ret]; imodintro
  iapply Hk
  unfold after
  isplitl [HO]; · iexact HO
  isplitl [Hz]; · iexact Hz
  isplitl [Ha0 Ha1 Hva0 Hva1]
  · isplitl [Ha0]; · iexact Ha0
    isplitl [Ha1]; · iexact Ha1
    isplitl [Hva0]; · iexact Hva0
    iexact Hva1
  isplitl [HB]; · iexact HB
  isplitl [Hg]; · iexact Hg
  isplitl [Hs]; · iexact Hs
  isplitl [Hu]; · iexact Hu
  iexact Hw

end Cert.KernelIdeal.Rs
-- ==== Proof.RunIdeal.lean ====
/-
# The run of the whole mesh

The launch deals every device its buffers and semaphores, its round positions and the duties it pays, and the
credit of the duties its peer pays to it. From these each device runs the body. At the end every device has
its argument unchanged, its result buffer holding the sum block by block, and every semaphore at zero.
-/
module

public import proofs.«01_k».proof.Proof.BodyIdeal
public import Idealize.ShloMosaic.Lib.Pipeline.CollectiveSegs

@[expose] public section

noncomputable section

namespace Cert.KernelIdeal.Rs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

abbrev EP : Emb (UR sig nD τ) (MT nD τ sig Unit (Elt F) ℕ UU ℕ) := embL

variable (m : (ℓ : Loc nD τ sig) → Buf (Elt F) ℓ) (ρ : Dev nD → PrngReg)

/-! ## The kernel's own semaphores, by use -/

/-- The semaphores of the two staging copies, of the sends, of the receives and of the copies of the result. -/
abbrev osem : (Fin 2 ⊕ Fin 2) ⊕ ((Fin 16 ⊕ Fin 16) ⊕ Fin 16) → SemLoc sig
  | .inl (.inl s) => .dma (aS s)
  | .inl (.inr s) => .dma (bS s)
  | .inr (.inl (.inl k)) => .dma (sS k)
  | .inr (.inl (.inr k)) => .dma (rS k)
  | .inr (.inr k) => .dma (oS k)

theorem osem_inj : Function.Injective osem := by
  intro i j h
  have hv : ∀ {d d' : DmaSem sig}, (SemLoc.dma d : SemLoc sig) = .dma d' → d.val = d'.val := fun h => by
    injection h with h; rw [h]
  rcases i with (s | s) | (k | k) | k <;> rcases j with (s' | s') | (k' | k') | k' <;> have h' := hv h <;>
    simp only [aS_val, bS_val, sS_val, rS_val, oS_val] at h' <;>
    first
    | omega
    | (have e : s = s' := Fin.ext (by omega); rw [e])
    | (have e : k = k' := Fin.ext (by omega); rw [e])

theorem ownSemFacts : Pipeline.OwnSemFacts cfg0.spec osem where
  isScoped := by decide
  inj := osem_inj
  disj _ w := w.elim0

/-- The semaphores of device `c` that no other device touches, at zero. -/
def locals (c : Dev nD) : sProp 𝕄 :=
  iprop((semVal ((c : Thread nD τ), .dma (aS 0)) 0 ∗ semVal ((c : Thread nD τ), .dma (aS 1)) 0)
    ∗ (semVal ((c : Thread nD τ), .dma (bS 0)) 0 ∗ semVal ((c : Thread nD τ), .dma (bS 1)) 0)
    ∗ bigSep Finset.univ fun k => semVal ((c : Thread nD τ), .dma (oS k)) 0)

theorem ownSems0_eq (c : Dev nD) :
    (Pipeline.ownSems0 (Ix := Unit) (Name := ℕ) (U := UU) (Lvl := ℕ) (Val := Elt F) (τ := τ) osem c : sProp 𝕄)
      = iprop(((semVal ((c : Thread nD τ), .dma (aS 0)) 0 ∗ semVal ((c : Thread nD τ), .dma (aS 1)) 0)
          ∗ (semVal ((c : Thread nD τ), .dma (bS 0)) 0 ∗ semVal ((c : Thread nD τ), .dma (bS 1)) 0))
        ∗ ((bigSep Finset.univ fun k => semVal (sendCell c k) 0) ∗ bigSep Finset.univ fun k => semVal (recvCell c k) 0)
        ∗ bigSep Finset.univ fun k => semVal ((c : Thread nD τ), .dma (oS k)) 0) := by
  unfold Pipeline.ownSems0
  rw [bigSep_univ_sum, bigSep_univ_sum, bigSep_univ_sum, bigSep_univ_sum, bigSep_fin_two, bigSep_fin_two]
  rfl

/-- The barrier semaphore is the one that outlives the kernel. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- Something per shared cell of a device is something for the barrier, per send and per receive. -/
theorem cells_split (P : CellIx → sProp 𝕄) : bigSep Finset.univ P
    = iprop(P (.inl ()) ∗ (bigSep Finset.univ fun k => P (.inr (.inl k))) ∗ bigSep Finset.univ fun k => P (.inr (.inr k))) := by
  rw [bigSep_univ_sum, bigSep_univ_sum, bigSep_univ_of_subsingleton ()]
  rfl

theorem sems_split (c : Dev nD) :
    iprop(Pipeline.ownSems0 (Ix := Unit) (Name := ℕ) (U := UU) (Lvl := ℕ) (Val := Elt F) (τ := τ) osem c ∗ unscopedSems0 c)
      ⊢ (iprop((bigSep Finset.univ fun j : CellIx => semVal (kcell (c, j)) 0) ∗ locals c) : sProp 𝕄) := by
  rw [ownSems0_eq, unscopedSems0_eq, cells_split]
  unfold locals
  iintro ⟨⟨⟨Ha, Hb⟩, ⟨Hs, Hr⟩, Ho⟩, HB⟩
  isplitl [Hs Hr HB]
  · isplitl [HB]; · iexact HB
    isplitl [Hs] <;> iassumption
  isplitl [Ha]; · iexact Ha
  isplitl [Hb] <;> iassumption

/-! ## The shared cells, at launch -/

theorem csem_inj : Function.Injective csem := by
  intro i j h
  have hv : ∀ {d d' : DmaSem sig}, (SemLoc.dma d : SemLoc sig) = .dma d' → d.val = d'.val := fun h => by
    injection h with h; rw [h]
  rcases i with _ | k | k <;> rcases j with _ | k' | k'
  all_goals first
    | rfl
    | (cases h; done)
    | (have h' := hv h
       simp only [sS_val, rS_val] at h'
       first
       | omega
       | (have e : k = k' := Fin.ext (by omega)
          rw [e]))

theorem kcell_injective : Function.Injective (kcell : Dev nD × CellIx → GSem nD τ sig) := by
  rintro ⟨c, k⟩ ⟨c', k'⟩ h
  have h1 : c = c' := congrArg (fun g : GSem nD τ sig => g.1.1) h
  have h2 : k = k' := csem_inj (congrArg Prod.snd h)
  rw [h1, h2]

/-- All shared cells, -/
def allCells : Finset (GSem nD τ sig) := Finset.univ.map ⟨kcell, kcell_injective⟩
/-- and each one's duty. -/
def allToks : Finset (GSem nD τ sig × ℕ × Unit) :=
  Finset.univ.map ⟨fun ck : Dev nD × CellIx => (kcell ck, 0, ()), fun _ _ h => kcell_injective (congrArg Prod.fst h)⟩

def u₀ : UU :=
  (initOf (Pipeline.cells cfgs cellOf_inj) (Pipeline.launchToks cfgs cellOf_inj), (initOf allCells allToks, (1 : Counters)))

theorem u₀_split : (ownU u₀ : sProp 𝕄)
    ⊢ iprop(BI.own (EP (initOf (Pipeline.cells cfgs cellOf_inj) (Pipeline.launchToks cfgs cellOf_inj)))
        ∗ BI.own (ER (initOf allCells allToks))) :=
  BI.own_op_elim ((uEmb (nD := nD) (τ := τ) (sig := sig) (Ix := Unit) (Val := Elt F) (Name := ℕ) (U := UU) (Lvl := ℕ)).toEmb.op_of_mem
    (Prod.mk_mem_op (URA.mem_op_one _) (URA.mem_one_op (initOf allCells allToks, (1 : Counters)))))

/-- What the launch deals device `c`, cell by cell. -/
def G (c : Dev nD) : sProp 𝕄 :=
  iprop((bigSep Finset.univ fun j : CellIx => roundState ER (Rd m) (kcell (c, j)) 0)
    ∗ (bigSep Finset.univ fun j : CellIx => iprop(atPos ER (kcell (c, j)) 0 ∅ 0 ∗ reached ER (kcell (c, j)) 0))
    ∗ bigSep Finset.univ fun j : CellIx => dutyTok ER (kcell (c, j)) 0 ())

theorem fund : BI.own (ER (initOf allCells allToks)) ⊢ (|==> bigSep Finset.univ (G m) : sProp 𝕄) := by
  have hX (P : GSem nD τ sig → sProp 𝕄) :
      bigSep allCells P = bigSep Finset.univ fun c : Dev nD => bigSep Finset.univ fun j : CellIx => P (kcell (c, j)) := by
    unfold allCells; rw [bigSep_map, bigSep_univ_prod]; rfl
  have hT : bigSep allToks (fun x => (dutyTok ER x.1 x.2.1 x.2.2 : sProp 𝕄))
      = bigSep Finset.univ fun c : Dev nD => bigSep Finset.univ fun j : CellIx => dutyTok ER (kcell (c, j)) 0 () := by
    unfold allToks; rw [bigSep_map, bigSep_univ_prod]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- One device's cells become invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j : CellIx => iprop(∃ κ : ℕ, cellInv ER (Rd m) κ (kcell (c, j))))
          ∗ (bigSep Finset.univ fun j : CellIx => iprop(atPos ER (kcell (c, j)) 0 ∅ 0 ∗ reached ER (kcell (c, j)) 0))
          ∗ (bigSep Finset.univ fun j : CellIx => dutyTok ER (kcell (c, j)) 0 ()) ∗ locals c) := by
  unfold G
  iintro ⟨Hos, Hus, Hst, Hat, Htok⟩
  ihave Hv := (sems_split (F := F) c) $$ [Hos Hus]
  · isplitl [Hos] <;> iassumption
  icases Hv with ⟨Hv, Hl⟩
  imod (show iprop((bigSep Finset.univ fun j : CellIx => semVal (kcell (c, j)) 0) ∗ bigSep Finset.univ fun j : CellIx => roundState ER (Rd m) (kcell (c, j)) 0)
      ⊢ (|={Set.univ}=> bigSep Finset.univ fun j : CellIx => iprop(∃ κ : ℕ, cellInv ER (Rd m) κ (kcell (c, j))) : sProp 𝕄) from by
        rw [← bigSep_sep']
        exact (bigSep_mono fun j _ => (Rounds.body_intro ER (Rd m) (kcell (c, j))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-! ## What each device starts from -/

/-- The positions, duties and own semaphores of device `c`. -/
def mine (c : Dev nD) : sProp 𝕄 :=
  iprop((bigSep Finset.univ fun j : CellIx => atPos ER (kcell (c, j)) 0 ∅ 0)
    ∗ (dutyTok ER (barCell (peer c)) 0 () ∗ (bigSep Finset.univ fun k => dutyTok ER (sendCell c k) 0 ())
      ∗ bigSep Finset.univ fun k => dutyTok ER (recvCell (peer c) k) 0 ())
    ∗ locals c)

/-- What device `c` has after the cells are made: the records of all cells, and its own part. -/
def G' (c : Dev nD) : sProp 𝕄 := iprop(∃ K, records m K ∗ mine c)

/-- The duties of a cell on one device are paid by the device itself (sends) or by its peer (the others). -/
theorem toks_swap : (bigSep Finset.univ fun c : Dev nD => bigSep Finset.univ fun j : CellIx => (dutyTok ER (kcell (c, j)) 0 () : sProp 𝕄))
    ⊢ bigSep Finset.univ fun c : Dev nD => iprop(dutyTok ER (barCell (peer c)) 0 () ∗ (bigSep Finset.univ fun k => dutyTok ER (sendCell c k) 0 ())
      ∗ bigSep Finset.univ fun k => dutyTok ER (recvCell (peer c) k) 0 ()) := by
  rw [bigSep_congr (s := Finset.univ) (fun (c : Dev nD) _ => cells_split fun j => (dutyTok ER (kcell (c, j)) 0 () : sProp 𝕄)),
    bigSep_sep', bigSep_sep', bigSep_sep', bigSep_sep',
    bigSep_univ_equiv swap (fun c : Dev nD => (dutyTok ER (barCell c) 0 () : sProp 𝕄)),
    bigSep_univ_equiv swap (fun c : Dev nD => (bigSep Finset.univ fun k => (dutyTok ER (recvCell c k) 0 () : sProp 𝕄)))]
  exact BIBase.Entails.rfl

theorem mine_intro : iprop((bigSep Finset.univ fun c : Dev nD => bigSep Finset.univ fun j : CellIx => (atPos ER (kcell (c, j)) 0 ∅ 0 : sProp 𝕄))
    ∗ (bigSep Finset.univ fun c : Dev nD => iprop(dutyTok ER (barCell (peer c)) 0 () ∗ (bigSep Finset.univ fun k => dutyTok ER (sendCell c k) 0 ())
      ∗ bigSep Finset.univ fun k => dutyTok ER (recvCell (peer c) k) 0 ()))
    ∗ bigSep Finset.univ fun c => locals (F := F) c) ⊢ bigSep Finset.univ fun c => mine (F := F) c := by
  unfold mine
  rw [← bigSep_sep', ← bigSep_sep']

/-- The cells' invariants, made device by device, are recorded with every device. -/
theorem regroup :
    (bigSep Finset.univ fun c : Dev nD => iprop((bigSep Finset.univ fun j : CellIx => iprop(∃ κ : ℕ, cellInv ER (Rd m) κ (kcell (c, j))))
          ∗ (bigSep Finset.univ fun j : CellIx => iprop(atPos ER (kcell (c, j)) 0 ∅ 0 ∗ reached ER (kcell (c, j)) 0))
          ∗ (bigSep Finset.univ fun j : CellIx => dutyTok ER (kcell (c, j)) 0 ()) ∗ locals c) : sProp 𝕄)
      ⊢ bigSep Finset.univ (G' m) := by
  rw [bigSep_sep', bigSep_sep', bigSep_sep', ← bigSep_univ_prod (fun ck : Dev nD × CellIx => iprop(∃ κ : ℕ, cellInv ER (Rd m) κ (kcell ck))),
    bigSep_congr (s := Finset.univ) (fun (c : Dev nD) _ => bigSep_sep' Finset.univ (fun j : CellIx => (atPos ER (kcell (c, j)) 0 ∅ 0 : sProp 𝕄)) (fun j => reached ER (kcell (c, j)) 0)),
    bigSep_sep', ← bigSep_univ_prod (fun ck : Dev nD × CellIx => (reached ER (kcell ck) 0 : sProp 𝕄))]
  iintro ⟨HI, ⟨Hat, #HR⟩, Htok, Hl⟩
  ihave HK := (BI.bigSep_exists_pi Finset.univ (fun (ck : Dev nD × CellIx) (κ : ℕ) => (cellInv ER (Rd m) κ (kcell ck) : sProp 𝕄))) $$ HI
  icases HK with ⟨%K, #HI⟩
  ihave Htk := (toks_swap (F := F)) $$ Htok
  iapply (bigSep_with_persistent (R := records m K) (Φ := fun c => mine (F := F) c) fun c _ => show iprop(records m K ∗ mine c) ⊢ G' m c from by
    unfold G'; iintro H; iexists K; iexact H)
  isplitr
  · unfold records; rw [bigSep_sep']
    isplitl; · iexact HI
    iexact HR
  · iapply (mine_intro (F := F))
    isplitl [Hat]; · iexact Hat
    isplitl [Htk] <;> iassumption

/-- All devices' semaphores and cells at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- Device `c` may collect what its peer owes it. -/
theorem creds (c : Dev nD) : (Pipeline.launchCred O₀ c : sProp 𝕄)
    ⊢ iprop((bigSep Finset.univ fun k => cred (tallyAt (recvCell c k) () N)) ∗ cred (tallyAt (barCell c) () 1)) := by
  have h : (O₀ : Dev nD → CellTallies nD τ sig Unit)
      = fun d => (fun d => ∑ k ∈ Finset.univ, (fun k d => tallyAt (recvCell (peer d) k) () N) k d) d + (fun d => tallyAt (barCell (peer d)) () 1) d := by
    funext d; unfold O₀ owedFrom; rw [from_zero]
  rw [h, Pipeline.launchCred_add, Pipeline.launchCred_sum]
  exact BIClass.sep_mono (bigSep_mono fun k _ => Pipeline.launchCred_tallyAt (.dma (rS k)) peer peer peer_peer peer_peer () N c)
    (Pipeline.launchCred_tallyAt (.reg barS) peer peer peer_peer peer_peer () 1 c)

/-- What device `c` brings into the kernel besides its scratch memory. -/
def start (c : Dev nD) : sProp 𝕄 :=
  iprop(G' m c ∗ ((bigSep Finset.univ fun k => cred (tallyAt (recvCell c k) () N)) ∗ cred (tallyAt (barCell c) () 1)) ∗ levAts L lv
    ∗ arg m c fullShare ∗ anyAt c oB)

/-- What it takes out. -/
def done (c : Dev nD) : sProp 𝕄 :=
  iprop(unscopedSems0 c ∗ arg m c fullShare
    ∗ ∃ R : Buf (Elt F) ((c : Thread nD τ).loc main_v1), ⌜∀ k j, R ((slab k).emb j) = outVal m c k j⌝ ∗ (c : Thread nD τ).loc main_v1 ↦{fullShare} R)

def Φ₀ (c : Dev nD) : sProp 𝕄 := iprop(start m c ∗ Pipeline.scopedRest cfg0.spec c)
def Φ₁ (c : Dev nD) : sProp 𝕄 := iprop(done m c ∗ Pipeline.ownSems0 osem c ∗ Pipeline.scopedRest cfg0.spec c)

/-- A whole buffer is the memory the launch deals. -/
theorem any_whole (c : Dev nD) (b : Ref sig .tc) :
    (anyAt c (Memref.whole b) : sProp 𝕄) = iprop(∃ f : Buf (Elt F) ((c : Thread nD τ).loc b), ((c : Thread nD τ).loc b) ↦{fullShare} f) := by
  unfold anyAt; simp only [Memref.view_whole, View.set_whole]

theorem scoped_eq (c : Dev nD) : (Pipeline.scopedRest cfg0.spec c : sProp 𝕄)
    = iprop(anyAt c sB ∗ anyAt c rB ∗ anyAt c gB ∗ anyAt c aB ∗ anyAt c bB) := by
  rw [scopedRest0_eq, any_whole, any_whole, any_whole, any_whole, any_whole]

/-- What the launch deals is what the body starts from. -/
theorem enter (c : Dev nD) : iprop(Φ₀ m c ∗ owing c (O₀ c)) ⊢ ∃ K, before m c K := by
  unfold Φ₀ start G' mine locals
  rw [scoped_eq, cells_split]
  iintro ⟨⟨⟨⟨%K, #HR, ⟨HpB, HpS, HpR⟩, ⟨HtB, HtS, HtR⟩, ⟨Ha0, Ha1⟩, ⟨Hb0, Hb1⟩, Ho⟩, ⟨HcR, HcB⟩, #HL, Harg, Hout⟩, Hs, Hr, Hg, Ha, Hb⟩, HO⟩
  iexists K
  unfold before ctx idleA idle awaited blank
  ihave Harg := (arg_parts m c).1 $$ Harg
  icases Harg with ⟨Hq0, Hq1⟩
  ihave Hs := (any_rows c sB) $$ Hs
  ihave Hr := (any_rows c rB) $$ Hr
  ihave Hout := (any_rows c oB) $$ Hout
  ihave Hg := (any_slots c gB) $$ Hg
  ihave Ha := (any_slots c aB) $$ Ha
  icases Ha with ⟨HA0, HA1⟩
  ihave Hb := (any_slots c bB) $$ Hb
  icases Hb with ⟨HB0, HB1⟩
  isplitr
  · isplitr; · iexact HR
    iexact HL
  isplitl [HO]; · iexact HO
  isplitl [HtB HcB HpB]
  · isplitl [HtB]; · iexact HtB
    isplitl [HcB] <;> iassumption
  isplitl [HtS HtR]
  · iapply (sep_join (fun k => (dutyTok ER (sendCell c k) 0 () : sProp 𝕄)) fun k => dutyTok ER (recvCell (peer c) k) 0 ())
    isplitl [HtS] <;> iassumption
  isplitl [HpS]; · iexact HpS
  isplitl [HcR HpR]
  · iapply (sep_join (fun k => (cred (tallyAt (recvCell c k) () N) : sProp 𝕄)) fun k => atPos ER (recvCell c k) 0 ∅ 0)
    isplitl [HcR] <;> iassumption
  isplitl [HA0 HA1 Ha0 Ha1 Hq0 Hq1]
  · isplitl [HA0 Ha0 Hq0]
    · isplitl [HA0]; · iexact HA0
      isplitl [Ha0] <;> iassumption
    · isplitl [HA1]; · iexact HA1
      isplitl [Ha1] <;> iassumption
  isplitl [HB0 HB1 Hb0 Hb1]
  · isplitl [HB0]; · iexact HB0
    isplitl [HB1]; · iexact HB1
    isplitl [Hb0] <;> iassumption
  isplitl [Hg]; · iexact Hg
  isplitl [Hs]; · iexact Hs
  isplitl [Hr]; · iexact Hr
  iapply (sep_join (fun k => (anyAt c (rows oB k) : sProp 𝕄)) fun k => semVal ((c : Thread nD τ), .dma (oS k)) 0)
  isplitl [Hout] <;> iassumption

/-- Sixteen pairs are two times sixteen. -/
theorem sep_part (A B : Fin 16 → sProp 𝕄) :
    (bigSep Finset.univ fun k => iprop(A k ∗ B k)) ⊢ iprop(bigSep Finset.univ A ∗ bigSep Finset.univ B) := by
  rw [show (bigSep Finset.univ fun k => iprop(A k ∗ B k)) = iprop(bigSep Finset.univ A ∗ bigSep Finset.univ B) from
    bigSep_sep Finset.univ A B]

/-- What the body ends with is what the launch takes back. -/
theorem leave (c : Dev nD) : after m c ⊢ iprop(Φ₁ m c ∗ owing c 0) := by
  unfold Φ₁ done
  rw [scoped_eq, ownSems0_eq, unscopedSems0_eq]
  unfold after idleB idle used written
  iintro ⟨HO, HB, ⟨HA0, HA1, Ha0, Ha1⟩, ⟨⟨HB0, Hb0, Hq0⟩, HB1, Hb1, Hq1⟩, Hg, Hs, Hr, Hw⟩
  ihave Hs := (sep_part (fun k => (anyAt c (rows sB k) : sProp 𝕄)) fun k => semVal (sendCell c k) 0) $$ Hs
  icases Hs with ⟨Hs, HzS⟩
  ihave Hr := (sep_part (fun k => (anyAt c (rows rB k) : sProp 𝕄)) fun k => semVal (recvCell c k) 0) $$ Hr
  icases Hr with ⟨Hr, HzR⟩
  ihave Hw := (sep_part (fun k => (owns (c : Thread nD τ) (rows oB k) fullShare (outVal m c k) : sProp 𝕄))
    fun k => semVal ((c : Thread nD τ), .dma (oS k)) 0) $$ Hw
  icases Hw with ⟨Hw, HzO⟩
  ihave Hw := (owns_of_rows c oB (outVal m c)) $$ Hw
  icases Hw with ⟨%R, %hR, Hw⟩
  ihave Hw := (Entails.of_eq (owns_whole (c : Thread nD τ) main_v1 fullShare R)) $$ Hw
  isplitr [HO]
  · isplitl [HB Hq0 Hq1 Hw]
    · isplitl [HB]; · iexact HB
      isplitl [Hq0 Hq1]
      · iapply (arg_parts m c).2
        isplitl [Hq0] <;> iassumption
      iexists R
      isplitr; · ipureintro; exact hR
      iexact Hw
    isplitl [Ha0 Ha1 Hb0 Hb1 HzS HzR HzO]
    · isplitl [Ha0 Ha1 Hb0 Hb1]
      · isplitl [Ha0 Ha1]
        · isplitl [Ha0] <;> iassumption
        · isplitl [Hb0] <;> iassumption
      isplitl [HzS HzR]
      · isplitl [HzS] <;> iassumption
      iexact HzO
    isplitl [Hs]; · iapply (any_of_rows c sB); iexact Hs
    isplitl [Hr]; · iapply (any_of_rows c rB); iexact Hr
    isplitl [Hg]; · iapply (any_of_slots c gB); iexact Hg
    isplitl [HA0 HA1]
    · iapply (any_of_slots c aB)
      isplitl [HA0] <;> iassumption
    · iapply (any_of_slots c bB)
      isplitl [HB0] <;> iassumption
  iexact HO

/-! ## The body's run as the launch asks for it -/

def dats (_ : Fin 1) (c : Dev nD) : Dat τ (Elt F) Unit ℕ UU ℕ cfg0 c where
  A w := m ((cfg0.win w).arr.view.loc (c : Thread nD τ))
  after w _ := (show Fin 0 from w).elim0
  Φ t := match t with
    | ⟨0, _⟩ => Φ₀ m c
    | ⟨_ + 1, _⟩ => Φ₁ m c
  q _ := fullShare
  owed t := match t with
    | ⟨0, _⟩ => O₀ c
    | ⟨_ + 1, _⟩ => 0

set_option maxRecDepth 65536 in
/-- The body, started from what the launch deals, runs and ends with what the launch takes back. -/
theorem body_obligation (c : Dev nD) : BodyObligation (dats (F := F) m 0 c) (defs₀ (F := F)) 𝒱₀ () Set.univ := fun t => by
  rw [fin_N0 t, bigSep_eq_bigSepL_of_eq [] (by decide) (by decide), bigSep_eq_bigSepL_of_eq [] (by decide) (by decide)]
  show iprop(Φ₀ m c ∗ Pipeline.owesWithin c (O₀ c) _ ∗ emp)
    ⊢ Wp c (bodyAt0 t0_0) fun _ => iprop(Φ₁ m c ∗ Pipeline.owesWithin c 0 ((dats m 0 c).bound () t0_0.succ) ∗ emp)
  rw [bodyAt_eq]
  unfold Pipeline.owesWithin
  iintro ⟨HΦ, ⟨%W, -, HO⟩, -⟩
  ihave H := (enter m c) $$ [HΦ HO]
  · isplitl [HΦ]; · iexact HΦ
    unfold owing; iexists W; iexact HO
  icases H with ⟨%K, H⟩
  iapply (sound_body m c K) $$ H
  iintro H
  ihave H := (leave m c) $$ H
  unfold owing
  icases H with ⟨HΦ, %W', HO⟩
  isplitl [HΦ]; · iexact HΦ
  isplitl
  · iexists W'
    isplitr; · ipureintro; exact fun _ _ => Or.inl trivial
    iexact HO
  iempintro

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Harg, Hout⟩, Hlev, Hcr, -, HG⟩
  ihave Hc := (creds (F := F) c) $$ Hcr
  imodintro
  unfold start
  rw [any_whole]
  isplitl
  · isplitl [HG]; · iexact HG
    isplitl [Hc]; · iexact Hc
    isplitl [Hlev]; · iexact Hlev
    isplitl [Harg]; · unfold arg; iexact Harg
    iexists _; iexact Hout
  iempintro

theorem waits (c : Dev nD) : (levAts L lv : sProp 𝕄) ⊢ Pipeline.cellsWaits cfgs (dats m) () 0 c :=
  Pipeline.cellsWaits_intro cfgs (dats m) () 0 c fun w s t => (show Fin 0 from w).elim0

/-- Reading a device's memory at the end. -/
def Ends (c : Dev nD) (s : MemSt nD τ sig (Elt F)) : Prop :=
  s.mem ((c : Thread nD τ).loc main_arg0) = m ((c : Thread nD τ).loc main_arg0)
    ∧ ∀ k j, (s.mem ((c : Thread nD τ).loc main_v1) : S8192x1024.Idx → Elt F .bf16) ((slab k).emb j) = outVal m c k j

theorem ends_read (c : Dev nD) (s' : Phys nD τ sig (Elt F)) :
    iprop(done m c ∗ emp ∗ SI s') ⊢ |={Set.univ}=> iprop(⌜Ends m c s'.mem
      ∧ ∀ sm : SemLoc sig, sm.isScoped .tc = false → s'.mem.sem ((c.tc : Thread nD τ), sm) = 0⌝ ∗ SI s') := by
  unfold done arg
  iintro ⟨⟨Hu, Ha, %R, %hR, Ho⟩, -, HSI⟩
  imod (Pipeline.unscopedSems0_read (X := unscopedSems0 c) (c := c) fupd_intro s') $$ [Hu HSI] with ⟨%hz, HSI⟩
  · isplitl [Hu] <;> iassumption
  icombine HSI Ha gives %ha
  icombine HSI Ho gives %ho
  imodintro
  isplitr
  · ipureintro
    refine ⟨⟨Buf.eq_of_forall_mem_univ ha, fun k j => ?_⟩, hz⟩
    rw [Buf.eq_of_forall_mem_univ ho]; exact hR k j
  iexact HSI

set_option maxRecDepth 8000 in
/-- From any memory with every semaphore at zero, for any float values: the sixteen devices run to the end
    without a fault, every device's argument ends unchanged, its result holds the sum block by block, and every
    semaphore is at zero. -/
theorem run_main : θ_run defs (onTc (τ := τ) (main (F := F))) ⟨m, fun _ => 0, ρ⟩
    (fun r => (∀ c, Ends m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => (show Fin 0 from w).elim0) (harr := arr_whole0) (hstage := stage_whole0)
    (hshare := fun c w => (show Fin 0 from w).elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      iintro Hu
      ihave H := (u₀_split (F := F)) $$ Hu
      icases H with ⟨HP, HX⟩
      imod (fund m) $$ HX with HG
      imodintro
      isplitl [HP] <;> iassumption)
    (hglob := glob m)
    (hA := fun _ _ => rfl) (hpf := fun _ k => k.elim0)
    (X := start m) (Y := done m) (Z := fun _ => iprop(emp))
    (hX := start_intro m ρ)
    (hin := fun c => by
      show _ ⊢ Φ₀ m c
      unfold Φ₀
      iintro ⟨Hs, -, Hr⟩
      isplitl [Hs] <;> iassumption)
    (hout := fun c => show Φ₁ m c ⊢ _ from BIBase.Entails.rfl)
    (QY := fun c s => Ends m c s ∧ ∀ sm : SemLoc sig, sm.isScoped .tc = false → s.sem ((c.tc : Thread nD τ), sm) = 0)
    (hY := fun c s' => ends_read m c s')
    (hQ := fun _ h hs => ⟨fun c => (h c).2.2.1, sem_eq_zero hs fun c => (h c).2.2.2⟩)

end Cert.KernelIdeal.Rs

end
-- ==== Proof.ValueIdeal.lean ====
/-
# The sum the mesh computes

At the extended reals a change of format is the identity, so what a device stores in its result is the sum of
two entries of the whole array: its own block's and that of the device which differs in the `y` coordinate.
The reference's entry is the sum over the two blocks. This file reads both at an index and states that a
device's result is its block of the reference's.
-/
module

public import proofs.«01_k».proof.Proof.RunIdeal
public import proofs.«01_k».proof.Proof.Gen.ReferenceIdeal.Run
public import Idealize.ShloMosaic.Lib.ValueLayout
public import Idealize.ShloMosaic.Lib.IdealHost
public import Idealize.ShloMosaic.Lib.Pointwise.Reduce

@[expose] public section

noncomputable section

namespace Cert.KernelIdeal.Rs

open Cert.KernelIdeal Cert.KernelIdeal.Gen
open Idealize.ShloMosaic hiding ix2 ix3 eq_ix2
open Idealize.ShloMosaic.ValueIdx (ix2 ix3 eq_ix2 reshapeEquiv_ix2_1ab)
open Idealize.ShloMosaic.TcCoe

/-! ## The blocks of the argument, at an index -/

/-- Row `i` of block `k`. -/
abbrev rowOf (k : Fin 16) (i : Fin 512) : Fin 8192 := ⟨512 * k.val + i.val, by omega⟩
/-- Column `q` of column half `h`. -/
abbrev colOf (h : Fin 2) (q : Fin 1024) : Fin 2048 := ⟨h.val * 1024 + q.val, by omega⟩
/-- Which block of the whole array a device has, and which column half it keeps. -/
abbrev yOf (c : Dev nD) : Fin 2 := ⟨c.val / 4 % 2, Nat.mod_lt _ (by decide)⟩
/-- The other one. -/
abbrev other (y : Fin 2) : Fin 2 := ⟨1 - y.val, by omega⟩

theorem yOf_peer (c : Dev nD) : yOf (peer c) = other (yOf c) := by revert c; decide
theorem other_other (y : Fin 2) : other (other y) = y := by revert y; decide

section
variable {F : FTy → Type} [FloatOps F]

/-- Block `k` of the columns the peer keeps, read at row `i` and column `q`. -/
theorem xA_read (c : Dev nD) (k : Fin 16) (X : S1x8192x2048.Idx → Elt F .f32) (i : Fin 512) (q : Fin 1024) :
    (xA c k).view.read (Elt F) X (ix2 i q) = X (ix3 0 (rowOf k i) (colOf (other (yOf c)) q)) := by
  rw [View.read_apply]
  show X ((Rect.unit (s := S1x8192x2048) (offA c k) S1x512x1024.size (offA_inb c k)).emb
    (Shape.reshapeEquiv _ (ix2 i q))) = _
  rw [reshapeEquiv_ix2_1ab]
  refine congrArg X (funext fun a => Fin.ext ?_)
  have e := congrFun (offA_eq c k) a
  show offA c k a + 1 * _ = _
  rw [e]
  fin_cases a <;> simp
/-- Block `k` of the own columns, read at row `i` and column `q`. -/
theorem xO_read (c : Dev nD) (k : Fin 16) (X : S1x8192x2048.Idx → Elt F .f32) (i : Fin 512) (q : Fin 1024) :
    (xO c k).view.read (Elt F) X (ix2 i q) = X (ix3 0 (rowOf k i) (colOf (yOf c) q)) := by
  rw [View.read_apply]
  show X ((Rect.unit (s := S1x8192x2048) (offB c k) S1x512x1024.size (offB_inb c k)).emb
    (Shape.reshapeEquiv _ (ix2 i q))) = _
  rw [reshapeEquiv_ix2_1ab]
  refine congrArg X (funext fun a => Fin.ext ?_)
  have e := congrFun (offB_eq c k) a
  show offB c k a + 1 * _ = _
  rw [e]
  fin_cases a <;> simp
end

/-! ## The two sums, at an index -/

/-- Device `c`'s argument. -/
def argOf (m : (ℓ : Loc nD τ sig) → Buf (Elt Ideal) ℓ) (c : Dev nD) : S1x8192x2048.Idx → EReal :=
  m ((c : Thread nD τ).loc main_arg0)

/-- What a device stores at row `i` of block `k` and column `q`: the peer's entry plus its own. -/
theorem outVal_apply (m : (ℓ : Loc nD τ sig) → Buf (Elt Ideal) ℓ) (c : Dev nD) (k : Fin 16) (i : Fin 512) (q : Fin 1024) :
    outVal m c k (ix2 i q)
      = argOf m (peer c) (ix3 0 (rowOf k i) (colOf (yOf c) q)) + argOf m c (ix3 0 (rowOf k i) (colOf (yOf c) q)) := by
  have hs : sent m (peer c) k (ix2 i q) = argOf m (peer c) (ix3 0 (rowOf k i) (colOf (yOf c) q)) := by
    unfold sent narrowed
    rw [shapeCast_self]
    have h := xA_read (F := Ideal) (peer c) k (argOf m (peer c)) i q
    rw [yOf_peer, other_other] at h
    exact h
  have ho := xO_read (F := Ideal) c k (argOf m c) i q
  exact congrArg₂ (fun a b : EReal => a + b) hs ho

/-- The reference's result as a function of the whole array. -/
def refVal (v : ReferenceIdeal.S2x8192x2048.Idx → EReal) : ReferenceIdeal.S8192x2048.Idx → EReal :=
  truncf (F := Ideal) .bf16 (Host.reduceAdd (extf .f32 (truncf (F := Ideal) (φ := .f32) .bf16 v ReferenceIdeal.Gen.bitsLt_bf16_f32) ReferenceIdeal.Gen.bitsLt_bf16_f32)
    (constant ReferenceIdeal.S_ .f32 0x00000000#32) ReferenceIdeal.Gen.reducesTo_S2x8192x2048_S8192x2048_d0 ReferenceIdeal.Gen.h_S_)
    ReferenceIdeal.Gen.bitsLt_bf16_f32

/-- It is the sum of the two entries. -/
theorem refVal_apply (v : ReferenceIdeal.S2x8192x2048.Idx → EReal) (r : Fin 8192) (q : Fin 2048) :
    refVal v (ix2 r q) = v (ix3 0 r q) + v (ix3 1 r q) := by
  have e : refVal v (ix2 r q) = Ideal.hostReduceAdd ReferenceIdeal.Gen.reducesTo_S2x8192x2048_S8192x2048_d0 v
      (Ideal.ofBits .f32 0x00000000#32) (ix2 r q) := rfl
  rw [e, Ideal.hostReduceAdd_r3_a0, Fin.sum_univ_two, Ideal.ofBits_zero_f32, zero_add]
  rfl

/-! ## The equation -/

/-- The coordinate of device `c` along the mesh's second axis. -/
theorem meshLin_y (c : Dev nD) : Layout.meshLin [2, 2, 4] c.val [1] = c.val / 4 % 2 := by revert c; decide

/-- Device `c`'s block of the argument, at an index, is the whole array's entry in block `c / 4 % 2`. -/
theorem argBlock_apply (v : ReferenceIdeal.S2x8192x2048.Idx → EReal) (c : Dev nD) (r : Fin 8192) (p : Fin 2048) :
    (Layout.blockN ⟨3, ![1, 8192, 2048]⟩ ⟨3, ![2, 8192, 2048]⟩ (Layout.meshBlock [2, 2, 4] ![[1], [], []] c) v) (ix3 0 r p)
      = v (ix3 (yOf c) r p) := by
  rw [Layout.blockN_apply]
  refine congrArg v (funext fun a => Fin.ext ?_)
  have hc := meshLin_y c
  match a with
  | ⟨0, _⟩ => show Layout.meshLin [2, 2, 4] c.val [1] * 1 + 0 = c.val / 4 % 2; omega
  | ⟨1, _⟩ => show 0 * 8192 + r.val = r.val; omega
  | ⟨2, _⟩ => show 0 * 2048 + p.val = p.val; omega

/-- Device `c`'s block of the result, at an index, is the whole result's entry in column half `c / 4 % 2`. -/
theorem outBlock_apply (w : ReferenceIdeal.S8192x2048.Idx → EReal) (c : Dev nD) (r : Fin 8192) (q : Fin 1024) :
    (Layout.blockN ⟨2, ![8192, 1024]⟩ ⟨2, ![8192, 2048]⟩ (Layout.meshBlock [2, 2, 4] ![[], [1]] c) w) (ix2 r q)
      = w (ix2 r (colOf (yOf c) q)) := by
  rw [Layout.blockN_apply]
  refine congrArg w (funext fun a => Fin.ext ?_)
  have hc := meshLin_y c
  match a with
  | ⟨0, _⟩ => show 0 * 8192 + r.val = r.val; omega
  | ⟨1, _⟩ => show Layout.meshLin [2, 2, 4] c.val [1] * 1024 + q.val = c.val / 4 % 2 * 1024 + q.val; omega

/-- The two blocks' entries, in either order. -/
theorem add_other (f : Fin 2 → EReal) (y : Fin 2) : f (other y) + f y = f 0 + f 1 := by
  fin_cases y
  · exact add_comm _ _
  · rfl

/-- Every row and column of a device's result is in one of the sixteen blocks. -/
theorem slab_ix (r : Fin 8192) (q : Fin 1024) :
    ∃ (k : Fin 16) (i : Fin 512), (slab k).emb (ix2 i q) = ix2 r q ∧ rowOf k i = r := by
  refine ⟨⟨r.val / 512, by omega⟩, ⟨r.val % 512, by omega⟩, ?_, Fin.ext ?_⟩
  · funext a
    apply Fin.ext
    match a with
    | ⟨0, _⟩ => show 512 * (r.val / 512) + 1 * (r.val % 512) = r.val; omega
    | ⟨1, _⟩ => show 0 + 1 * q.val = q.val; omega
  · show 512 * (r.val / 512) + r.val % 512 = r.val; omega

/-- A device's result is its block of the reference's. -/
theorem out_block (m : (ℓ : Loc nD τ sig) → Buf (Elt Ideal) ℓ) (v : ReferenceIdeal.S2x8192x2048.Idx → EReal)
    (hm : ∀ c : Dev nD, m ((c : Thread nD τ).loc main_arg0)
      = Layout.blockN ⟨3, ![1, 8192, 2048]⟩ ⟨3, ![2, 8192, 2048]⟩ (Layout.meshBlock [2, 2, 4] ![[1], [], []] c) v)
    (c : Dev nD) (s : MemSt nD τ sig (Elt Ideal)) (h : Ends m c s) :
    s.mem ((c : Thread nD τ).loc main_v1)
      = Layout.blockN ⟨2, ![8192, 1024]⟩ ⟨2, ![8192, 2048]⟩ (Layout.meshBlock [2, 2, 4] ![[], [1]] c) (refVal v) := by
  have ha (d : Dev nD) (r : Fin 8192) (p : Fin 2048) : argOf m d (ix3 0 r p) = v (ix3 (yOf d) r p) :=
    (congrFun (hm d) (ix3 0 r p)).trans (argBlock_apply v d r p)
  refine funext fun (y : S8192x1024.Idx) => ?_
  obtain ⟨r, q, rfl⟩ : ∃ (r : Fin 8192) (q : Fin 1024), y = ix2 r q := ⟨y 0, y 1, eq_ix2 y⟩
  obtain ⟨k, i, e, hr⟩ := slab_ix r q
  have h' := h.2 k (ix2 i q)
  rw [e, outVal_apply, ha, ha, hr, yOf_peer, add_other (fun b => v (ix3 b r (colOf (yOf c) q))) (yOf c)] at h'
  exact h'.trans ((refVal_apply v r _).symm.trans (outBlock_apply (refVal v) c r q).symm)

end Cert.KernelIdeal.Rs

end
-- ==== Proof.lean ====
/-
# The reduce-scatter's certificate

Both instances of the kernel run to the end on every device, leave the argument as it was and every semaphore at
zero; the reference runs likewise; and over the extended reals each device's result is its block of the
reference's sum.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.ValueIdeal
public import Idealize.ShloMosaic.Adequacy
public import Idealize.ShloMosaic.Init

@[expose] public section

noncomputable section

namespace Cert.Proof

open Idealize.ShloMosaic Idealize.SL.Sem Cert.Kernel

/-- The kernel runs on the whole mesh, its arguments unchanged and its semaphores at zero. -/
theorem frame_kernel : @quiescent_Kernel Cert.Kernel.Gen.facts := fun m g _ =>
  (θ_run Cert.Kernel.defs _ _).mono (fun _ h => ⟨fun c => (h.1 c).1, h.2⟩) (Cert.Kernel.Rs.run_main m g)

/-- So does its ideal instance. -/
theorem frame_ideal : @quiescent_KernelIdeal Cert.KernelIdeal.Gen.facts := fun m g _ =>
  (θ_run Cert.KernelIdeal.defs _ _).mono (fun _ h => ⟨fun c => (h.1 c).1, h.2⟩) (Cert.KernelIdeal.Rs.run_main m g)

/-- The reference declares no semaphore. -/
theorem no_sems (s : SemLoc Cert.ReferenceIdeal.sig) : False := by revert s; decide

/-- The reference runs, its argument unchanged and its semaphores at zero. -/
theorem frame_reference : @quiescent_ReferenceIdeal Cert.ReferenceIdeal.Gen.facts := fun m g _ =>
  (θ_run Cert.ReferenceIdeal.defs _ _).mono (fun _ h => ⟨fun c => (h c).2, funext fun s => (no_sems s.2).elim⟩) (Cert.ReferenceIdeal.Value.run m g)

/-- Over the extended reals each device's result is its block of the reference's. -/
theorem algebraic : @algebraic_KernelIdeal_ReferenceIdeal Cert.KernelIdeal.Gen.facts Cert.ReferenceIdeal.Gen.facts :=
  fun m g m' g' _ hm =>
    ⟨Cert.KernelIdeal.Rs.refVal (m' (((0 : Dev Cert.ReferenceIdeal.nD).tc : Thread _ Cert.ReferenceIdeal.τ).loc Cert.ReferenceIdeal.main_arg0)),
      (θ_run Cert.KernelIdeal.defs _ _).mono
        (fun r h c => ⟨Cert.KernelIdeal.Rs.out_block m _ hm c r.2 (h.1 c), (h.1 c).1⟩) (Cert.KernelIdeal.Rs.run_main m g),
      (θ_run Cert.ReferenceIdeal.defs _ _).mono (fun _ h => h 0) (Cert.ReferenceIdeal.Value.run m' g')⟩

/-- Every claim. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end
